-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x64x64x64 : Shape := ⟨5, ![8, 32, 64, 64, 64]⟩
abbrev S_ : Shape := ⟨0, ![]⟩

class Facts : Prop where
  bcast_S_S8x32x64x64x64 : S_.BroadcastsInDim S8x32x64x64x64 (![] : Fin 0 → Fin S8x32x64x64x64.rank)

variable [Facts]

def fn {F : FTy → Type} [FloatOps F] (main_arg0 : FVec F S8x32x64x64x64 .f32) : IVec S8x32x64x64x64 1 :=
  let main_v0 : FVec F S8x32x64x64x64 .f32 := Host.absf main_arg0
  let main_cst : FVec F S_ .f32 := constant S_ .f32 0x7F800000#32
  let main_v1 : FVec F S8x32x64x64x64 .f32 := broadcastInDim S8x32x64x64x64 ![] bcast_S_S8x32x64x64x64 main_cst
  let main_v2 : IVec S8x32x64x64x64 1 := cmpf .olt main_v0 main_v1
  main_v2
-- ==== Kernel.lean ====
abbrev S8x32x64x64x64 : Shape := ⟨5, ![8, 32, 64, 64, 64]⟩
abbrev S256x2x32x64x64 : Shape := ⟨5, ![256, 2, 32, 64, 64]⟩
abbrev S32 : Shape := ⟨1, ![32]⟩
abbrev S32x1 : Shape := ⟨2, ![32, 1]⟩
abbrev S_ : Shape := ⟨0, ![]⟩
abbrev S1x32 : Shape := ⟨2, ![1, 32]⟩
abbrev S32x32 : Shape := ⟨2, ![32, 32]⟩
abbrev S28x32 : Shape := ⟨2, ![28, 32]⟩
abbrev S28x32x1 : Shape := ⟨3, ![28, 32, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S28x64 : Shape := ⟨2, ![28, 64]⟩
abbrev S28x1x64 : Shape := ⟨3, ![28, 1, 64]⟩
abbrev S28x32x64 : Shape := ⟨3, ![28, 32, 64]⟩
abbrev S32x64 : Shape := ⟨2, ![32, 64]⟩
abbrev S256x32x32x32 : Shape := ⟨4, ![256, 32, 32, 32]⟩
abbrev S8x1x32x64x64 : Shape := ⟨5, ![8, 1, 32, 64, 64]⟩
abbrev S8x32x32x32 : Shape := ⟨4, ![8, 32, 32, 32]⟩
abbrev S1x32x64 : Shape := ⟨3, ![1, 32, 64]⟩
abbrev S8x32x64 : Shape := ⟨3, ![8, 32, 64]⟩
abbrev S8x32x64x64 : Shape := ⟨4, ![8, 32, 64, 64]⟩
abbrev S8x32x32 : Shape := ⟨3, ![8, 32, 32]⟩
abbrev S16384x64 : Shape := ⟨2, ![16384, 64]⟩
abbrev S16384x32 : Shape := ⟨2, ![16384, 32]⟩
abbrev S256x64x32 : Shape := ⟨3, ![256, 64, 32]⟩
abbrev S256x32x64 : Shape := ⟨3, ![256, 32, 64]⟩
abbrev S8192x64 : Shape := ⟨2, ![8192, 64]⟩
abbrev S8192x32 : Shape := ⟨2, ![8192, 32]⟩
abbrev S8x32x32x32x32 : Shape := ⟨5, ![8, 32, 32, 32, 32]⟩

abbrev nBuf : Space → Nat
  | .hbm => 82
  | .vmem => 7
  | .smem => 0
  | _ => 0

abbrev bufTy : (tb : Table) → Fin (tcTables nBuf tb) → BufTy
  | .hbm, ⟨0, _⟩ => ⟨S8x32x64x64x64, .f32⟩
  | .hbm, ⟨1, _⟩ => ⟨S256x2x32x64x64, .f32⟩
  | .hbm, ⟨2, _⟩ => ⟨S32, .f32⟩
  | .hbm, ⟨3, _⟩ => ⟨S32, .f32⟩
  | .hbm, ⟨4, _⟩ => ⟨S32x1, .f32⟩
  | .hbm, ⟨5, _⟩ => ⟨S_, .f32⟩
  | .hbm, ⟨6, _⟩ => ⟨S_, .f32⟩
  | .hbm, ⟨7, _⟩ => ⟨S1x32, .f32⟩
  | .hbm, ⟨8, _⟩ => ⟨S_, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S32x32, .f32⟩
  | .hbm, ⟨17, _⟩ => ⟨S32x32, .f32⟩
  | .hbm, ⟨18, _⟩ => ⟨S32x32, .f32⟩
  | .hbm, ⟨19, _⟩ => ⟨S_, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32x1, .f32⟩
  | .hbm, ⟨25, _⟩ => ⟨S32x1, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x1, .f32⟩
  | .hbm, ⟨31, _⟩ => ⟨S32x1, .f32⟩
  | .hbm, ⟨32, _⟩ => ⟨S32x1, .f32⟩
  | .hbm, ⟨33, _⟩ => ⟨S32x1, .f32⟩
  | .hbm, ⟨34, _⟩ => ⟨S32x32, .f32⟩
  | .hbm, ⟨35, _⟩ => ⟨S32x32, .f32⟩
  | .hbm, ⟨36, _⟩ => ⟨S28x32, .f32⟩
  | .hbm, ⟨37, _⟩ => ⟨S28x32x1, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S_, .f32⟩
  | .hbm, ⟨42, _⟩ => ⟨S_, .f32⟩
  | .hbm, ⟨43, _⟩ => ⟨S1x64, .f32⟩
  | .hbm, ⟨44, _⟩ => ⟨S_, .f32⟩
  | .hbm, ⟨45, _⟩ => ⟨S1x64, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S_, .f32⟩
  | .hbm, ⟨60, _⟩ => ⟨S64x1, .f32⟩
  | .hbm, ⟨61, _⟩ => ⟨S64x1, .i1⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S64x1, .f32⟩
  | .hbm, ⟨67, _⟩ => ⟨S64x1, .f32⟩
  | .hbm, ⟨68, _⟩ => ⟨S64x1, .f32⟩
  | .hbm, ⟨69, _⟩ => ⟨S64x1, .f32⟩
  | .hbm, ⟨70, _⟩ => ⟨S64x64, .f32⟩
  | .hbm, ⟨71, _⟩ => ⟨S64x64, .f32⟩
  | .hbm, ⟨72, _⟩ => ⟨S28x64, .f32⟩
  | .hbm, ⟨73, _⟩ => ⟨S28x1x64, .f32⟩
  | .hbm, ⟨74, _⟩ => ⟨S28x32x64, .f32⟩
  | .hbm, ⟨75, _⟩ => ⟨S28x32x64, .f32⟩
  | .hbm, ⟨76, _⟩ => ⟨S28x32x64, .f32⟩
  | .hbm, ⟨77, _⟩ => ⟨S_, .f32⟩
  | .hbm, ⟨78, _⟩ => ⟨S32x64, .f32⟩
  | .hbm, ⟨79, _⟩ => ⟨S256x32x32x32, .f32⟩
  | .hbm, ⟨80, _⟩ => ⟨S256x32x32x32, .f32⟩
  | .hbm, ⟨81, _⟩ => ⟨S8x32x32x32x32, .f32⟩
  | .local _ .vmem, ⟨0, _⟩ => ⟨S32x64, .f32⟩
  | .local _ .vmem, ⟨1, _⟩ => ⟨S8x1x32x64x64, .f32⟩
  | .local _ .vmem, ⟨2, _⟩ => ⟨S8x1x32x64x64, .f32⟩
  | .local _ .vmem, ⟨3, _⟩ => ⟨S8x1x32x64x64, .f32⟩
  | .local _ .vmem, ⟨4, _⟩ => ⟨S8x1x32x64x64, .f32⟩
  | .local _ .vmem, ⟨5, _⟩ => ⟨S8x32x32x32, .f32⟩
  | .local _ .vmem, ⟨6, _⟩ => ⟨S8x32x32x32, .f32⟩
  | _, _ => ⟨S8x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_call1_v0 : Ref sig .tc := ⟨.hbm, 66, rfl⟩
abbrev main_call1_v1 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x1x32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x32x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x32x64x64x64 : Shape := ⟨5, ![8, 32, 64, 64, 64]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S32x64x64x64x8 : Shape := ⟨5, ![32, 64, 64, 64, 8]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S8x64x64x64x32 : Shape := ⟨5, ![8, 64, 64, 64, 32]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x32x28x28x28 : Shape := ⟨5, ![8, 32, 28, 28, 28]⟩
abbrev S8x32x32x32x32 : Shape := ⟨5, ![8, 32, 32, 32, 32]⟩
abbrev S32x32x32x32x8 : Shape := ⟨5, ![32, 32, 32, 32, 8]⟩

abbrev nBuf : Space → Nat
  | .hbm => 376
  | .vmem => 0
  | .smem => 0
  | _ => 0

abbrev hbmTy0_0 (i : Nat) : BufTy := match i % 128 with
  | 0 => ⟨S8x32x64x64x64, .f32⟩
  | 1 => ⟨S_, .f32⟩
  | 2 => ⟨S_, .f32⟩
  | 3 => ⟨S8, .f32⟩
  | 4 => ⟨S8, .f32⟩
  | 5 => ⟨S8x1, .f32⟩
  | 6 => ⟨S1x8, .f32⟩
  | 7 => ⟨S_, .f32⟩
  | 8 => ⟨S1x8, .f32⟩
  | 9 => ⟨S1x8, .f32⟩
  | 10 => ⟨S_, .f32⟩
  | 11 => ⟨S1x8, .f32⟩
  | 12 => ⟨S1x8, .f32⟩
  | 13 => ⟨S1x8, .f32⟩
  | 14 => ⟨S1x8, .f32⟩
  | 15 => ⟨S8x8, .f32⟩
  | 16 => ⟨S8x8, .f32⟩
  | 17 => ⟨S8x8, .f32⟩
  | 18 => ⟨S_, .f32⟩
  | 19 => ⟨S8x8, .f32⟩
  | 20 => ⟨S8x8, .f32⟩
  | 21 => ⟨S8x8, .f32⟩
  | 22 => ⟨S_, .f32⟩
  | 23 => ⟨S8x1, .f32⟩
  | 24 => ⟨S8x1, .i1⟩
  | 25 => ⟨S_, .f32⟩
  | 26 => ⟨S_, .f32⟩
  | 27 => ⟨S_, .f32⟩
  | 28 => ⟨S_, .f32⟩
  | 29 => ⟨S8x1, .f32⟩
  | 30 => ⟨S8x1, .f32⟩
  | 31 => ⟨S8x1, .f32⟩
  | 32 => ⟨S8x1, .f32⟩
  | 33 => ⟨S8x8, .f32⟩
  | 34 => ⟨S8x8, .f32⟩
  | 35 => ⟨S32x64x64x64x8, .f32⟩
  | 36 => ⟨S8x8, .f32⟩
  | 37 => ⟨S32x64x64x64x8, .f32⟩
  | 38 => ⟨S8x32x64x64x64, .f32⟩
  | 39 => ⟨S_, .f32⟩
  | 40 => ⟨S_, .f32⟩
  | 41 => ⟨S32, .f32⟩
  | 42 => ⟨S32, .f32⟩
  | 43 => ⟨S32x1, .f32⟩
  | 44 => ⟨S1x32, .f32⟩
  | 45 => ⟨S_, .f32⟩
  | 46 => ⟨S1x32, .f32⟩
  | 47 => ⟨S1x32, .f32⟩
  | 48 => ⟨S_, .f32⟩
  | 49 => ⟨S1x32, .f32⟩
  | 50 => ⟨S1x32, .f32⟩
  | 51 => ⟨S1x32, .f32⟩
  | 52 => ⟨S1x32, .f32⟩
  | 53 => ⟨S32x32, .f32⟩
  | 54 => ⟨S32x32, .f32⟩
  | 55 => ⟨S32x32, .f32⟩
  | 56 => ⟨S_, .f32⟩
  | 57 => ⟨S32x32, .f32⟩
  | 58 => ⟨S32x32, .f32⟩
  | 59 => ⟨S32x32, .f32⟩
  | 60 => ⟨S_, .f32⟩
  | 61 => ⟨S32x1, .f32⟩
  | 62 => ⟨S32x1, .i1⟩
  | 63 => ⟨S_, .f32⟩
  | 64 => ⟨S_, .f32⟩
  | 65 => ⟨S_, .f32⟩
  | 66 => ⟨S_, .f32⟩
  | 67 => ⟨S32x1, .f32⟩
  | 68 => ⟨S32x1, .f32⟩
  | 69 => ⟨S32x1, .f32⟩
  | 70 => ⟨S32x1, .f32⟩
  | 71 => ⟨S32x32, .f32⟩
  | 72 => ⟨S32x32, .f32⟩
  | 73 => ⟨S8x64x64x64x32, .f32⟩
  | 74 => ⟨S32x32, .f32⟩
  | 75 => ⟨S8x64x64x64x32, .f32⟩
  | 76 => ⟨S8x32x64x64x64, .f32⟩
  | 77 => ⟨S_, .f32⟩
  | 78 => ⟨S_, .f32⟩
  | 79 => ⟨S64, .f32⟩
  | 80 => ⟨S64, .f32⟩
  | 81 => ⟨S64x1, .f32⟩
  | 82 => ⟨S1x64, .f32⟩
  | 83 => ⟨S_, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S1x64, .f32⟩
  | 90 => ⟨S1x64, .f32⟩
  | 91 => ⟨S64x64, .f32⟩
  | 92 => ⟨S64x64, .f32⟩
  | 93 => ⟨S64x64, .f32⟩
  | 94 => ⟨S_, .f32⟩
  | 95 => ⟨S64x64, .f32⟩
  | 96 => ⟨S64x64, .f32⟩
  | 97 => ⟨S64x64, .f32⟩
  | 98 => ⟨S_, .f32⟩
  | 99 => ⟨S64x1, .f32⟩
  | 100 => ⟨S64x1, .i1⟩
  | 101 => ⟨S_, .f32⟩
  | 102 => ⟨S_, .f32⟩
  | 103 => ⟨S_, .f32⟩
  | 104 => ⟨S_, .f32⟩
  | 105 => ⟨S64x1, .f32⟩
  | 106 => ⟨S64x1, .f32⟩
  | 107 => ⟨S64x1, .f32⟩
  | 108 => ⟨S64x1, .f32⟩
  | 109 => ⟨S64x64, .f32⟩
  | 110 => ⟨S64x64, .f32⟩
  | 111 => ⟨S8x32x64x64x64, .f32⟩
  | 112 => ⟨S64x64, .f32⟩
  | 113 => ⟨S8x32x64x64x64, .f32⟩
  | 114 => ⟨S8x32x64x64x64, .f32⟩
  | 115 => ⟨S_, .f32⟩
  | 116 => ⟨S_, .f32⟩
  | 117 => ⟨S64, .f32⟩
  | 118 => ⟨S64, .f32⟩
  | 119 => ⟨S64x1, .f32⟩
  | 120 => ⟨S1x64, .f32⟩
  | 121 => ⟨S_, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S8x32x64x64x64, .f32⟩

abbrev hbmTy0_1 (i : Nat) : BufTy := match i % 128 with
  | 0 => ⟨S1x64, .f32⟩
  | 1 => ⟨S64x64, .f32⟩
  | 2 => ⟨S64x64, .f32⟩
  | 3 => ⟨S64x64, .f32⟩
  | 4 => ⟨S_, .f32⟩
  | 5 => ⟨S64x64, .f32⟩
  | 6 => ⟨S64x64, .f32⟩
  | 7 => ⟨S64x64, .f32⟩
  | 8 => ⟨S_, .f32⟩
  | 9 => ⟨S64x1, .f32⟩
  | 10 => ⟨S64x1, .i1⟩
  | 11 => ⟨S_, .f32⟩
  | 12 => ⟨S_, .f32⟩
  | 13 => ⟨S_, .f32⟩
  | 14 => ⟨S_, .f32⟩
  | 15 => ⟨S64x1, .f32⟩
  | 16 => ⟨S64x1, .f32⟩
  | 17 => ⟨S64x1, .f32⟩
  | 18 => ⟨S64x1, .f32⟩
  | 19 => ⟨S64x64, .f32⟩
  | 20 => ⟨S64x64, .f32⟩
  | 21 => ⟨S8x32x64x64x64, .f32⟩
  | 22 => ⟨S64x64, .f32⟩
  | 23 => ⟨S8x32x64x64x64, .f32⟩
  | 24 => ⟨S8x32x64x64x64, .f32⟩
  | 25 => ⟨S_, .f32⟩
  | 26 => ⟨S_, .f32⟩
  | 27 => ⟨S64, .f32⟩
  | 28 => ⟨S64, .f32⟩
  | 29 => ⟨S64x1, .f32⟩
  | 30 => ⟨S1x64, .f32⟩
  | 31 => ⟨S_, .f32⟩
  | 32 => ⟨S1x64, .f32⟩
  | 33 => ⟨S1x64, .f32⟩
  | 34 => ⟨S_, .f32⟩
  | 35 => ⟨S1x64, .f32⟩
  | 36 => ⟨S1x64, .f32⟩
  | 37 => ⟨S1x64, .f32⟩
  | 38 => ⟨S1x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S_, .f32⟩
  | 47 => ⟨S64x1, .f32⟩
  | 48 => ⟨S64x1, .i1⟩
  | 49 => ⟨S_, .f32⟩
  | 50 => ⟨S_, .f32⟩
  | 51 => ⟨S_, .f32⟩
  | 52 => ⟨S_, .f32⟩
  | 53 => ⟨S64x1, .f32⟩
  | 54 => ⟨S64x1, .f32⟩
  | 55 => ⟨S64x1, .f32⟩
  | 56 => ⟨S64x1, .f32⟩
  | 57 => ⟨S64x64, .f32⟩
  | 58 => ⟨S64x64, .f32⟩
  | 59 => ⟨S64x64, .f32⟩
  | 60 => ⟨S8x32x64x64x64, .f32⟩
  | 61 => ⟨S8x32x28x28x28, .f32⟩
  | 62 => ⟨S_, .i32⟩
  | 63 => ⟨S_, .f32⟩
  | 64 => ⟨S8x32x32x32x32, .f32⟩
  | 65 => ⟨S_, .f32⟩
  | 66 => ⟨S_, .f32⟩
  | 67 => ⟨S8, .f32⟩
  | 68 => ⟨S8, .f32⟩
  | 69 => ⟨S8x1, .f32⟩
  | 70 => ⟨S1x8, .f32⟩
  | 71 => ⟨S_, .f32⟩
  | 72 => ⟨S1x8, .f32⟩
  | 73 => ⟨S1x8, .f32⟩
  | 74 => ⟨S_, .f32⟩
  | 75 => ⟨S1x8, .f32⟩
  | 76 => ⟨S1x8, .f32⟩
  | 77 => ⟨S1x8, .f32⟩
  | 78 => ⟨S1x8, .f32⟩
  | 79 => ⟨S8x8, .f32⟩
  | 80 => ⟨S8x8, .f32⟩
  | 81 => ⟨S8x8, .f32⟩
  | 82 => ⟨S_, .f32⟩
  | 83 => ⟨S8x8, .f32⟩
  | 84 => ⟨S8x8, .f32⟩
  | 85 => ⟨S8x8, .f32⟩
  | 86 => ⟨S_, .f32⟩
  | 87 => ⟨S8x1, .f32⟩
  | 88 => ⟨S8x1, .i1⟩
  | 89 => ⟨S_, .f32⟩
  | 90 => ⟨S_, .f32⟩
  | 91 => ⟨S_, .f32⟩
  | 92 => ⟨S_, .f32⟩
  | 93 => ⟨S8x1, .f32⟩
  | 94 => ⟨S8x1, .f32⟩
  | 95 => ⟨S8x1, .f32⟩
  | 96 => ⟨S8x1, .f32⟩
  | 97 => ⟨S8x8, .f32⟩
  | 98 => ⟨S8x8, .f32⟩
  | 99 => ⟨S32x32x32x32x8, .f32⟩
  | 100 => ⟨S32x32x32x32x8, .f32⟩
  | 101 => ⟨S8x32x32x32x32, .f32⟩
  | 102 => ⟨S_, .f32⟩
  | 103 => ⟨S_, .f32⟩
  | 104 => ⟨S32, .f32⟩
  | 105 => ⟨S32, .f32⟩
  | 106 => ⟨S32x1, .f32⟩
  | 107 => ⟨S1x32, .f32⟩
  | 108 => ⟨S_, .f32⟩
  | 109 => ⟨S1x32, .f32⟩
  | 110 => ⟨S1x32, .f32⟩
  | 111 => ⟨S_, .f32⟩
  | 112 => ⟨S1x32, .f32⟩
  | 113 => ⟨S1x32, .f32⟩
  | 114 => ⟨S1x32, .f32⟩
  | 115 => ⟨S1x32, .f32⟩
  | 116 => ⟨S32x32, .f32⟩
  | 117 => ⟨S32x32, .f32⟩
  | 118 => ⟨S32x32, .f32⟩
  | 119 => ⟨S_, .f32⟩
  | 120 => ⟨S32x32, .f32⟩
  | 121 => ⟨S32x32, .f32⟩
  | 122 => ⟨S32x32, .f32⟩
  | 123 => ⟨S_, .f32⟩
  | 124 => ⟨S32x1, .f32⟩
  | 125 => ⟨S32x1, .i1⟩
  | 126 => ⟨S_, .f32⟩
  | 127 => ⟨S_, .f32⟩
  | _ => ⟨S8x32x64x64x64, .f32⟩

abbrev hbmTy0_2 (i : Nat) : BufTy := match i % 128 with
  | 0 => ⟨S_, .f32⟩
  | 1 => ⟨S_, .f32⟩
  | 2 => ⟨S32x1, .f32⟩
  | 3 => ⟨S32x1, .f32⟩
  | 4 => ⟨S32x1, .f32⟩
  | 5 => ⟨S32x1, .f32⟩
  | 6 => ⟨S32x32, .f32⟩
  | 7 => ⟨S32x32, .f32⟩
  | 8 => ⟨S8x32x32x32x32, .f32⟩
  | 9 => ⟨S8x32x32x32x32, .f32⟩
  | 10 => ⟨S8x32x32x32x32, .f32⟩
  | 11 => ⟨S_, .f32⟩
  | 12 => ⟨S_, .f32⟩
  | 13 => ⟨S32, .f32⟩
  | 14 => ⟨S32, .f32⟩
  | 15 => ⟨S32x1, .f32⟩
  | 16 => ⟨S1x32, .f32⟩
  | 17 => ⟨S_, .f32⟩
  | 18 => ⟨S1x32, .f32⟩
  | 19 => ⟨S1x32, .f32⟩
  | 20 => ⟨S_, .f32⟩
  | 21 => ⟨S1x32, .f32⟩
  | 22 => ⟨S1x32, .f32⟩
  | 23 => ⟨S1x32, .f32⟩
  | 24 => ⟨S1x32, .f32⟩
  | 25 => ⟨S32x32, .f32⟩
  | 26 => ⟨S32x32, .f32⟩
  | 27 => ⟨S32x32, .f32⟩
  | 28 => ⟨S_, .f32⟩
  | 29 => ⟨S32x32, .f32⟩
  | 30 => ⟨S32x32, .f32⟩
  | 31 => ⟨S32x32, .f32⟩
  | 32 => ⟨S_, .f32⟩
  | 33 => ⟨S32x1, .f32⟩
  | 34 => ⟨S32x1, .i1⟩
  | 35 => ⟨S_, .f32⟩
  | 36 => ⟨S_, .f32⟩
  | 37 => ⟨S_, .f32⟩
  | 38 => ⟨S_, .f32⟩
  | 39 => ⟨S32x1, .f32⟩
  | 40 => ⟨S32x1, .f32⟩
  | 41 => ⟨S32x1, .f32⟩
  | 42 => ⟨S32x1, .f32⟩
  | 43 => ⟨S32x32, .f32⟩
  | 44 => ⟨S32x32, .f32⟩
  | 45 => ⟨S8x32x32x32x32, .f32⟩
  | 46 => ⟨S8x32x32x32x32, .f32⟩
  | 47 => ⟨S8x32x32x32x32, .f32⟩
  | 48 => ⟨S_, .f32⟩
  | 49 => ⟨S_, .f32⟩
  | 50 => ⟨S32, .f32⟩
  | 51 => ⟨S32, .f32⟩
  | 52 => ⟨S32x1, .f32⟩
  | 53 => ⟨S1x32, .f32⟩
  | 54 => ⟨S_, .f32⟩
  | 55 => ⟨S1x32, .f32⟩
  | 56 => ⟨S1x32, .f32⟩
  | 57 => ⟨S_, .f32⟩
  | 58 => ⟨S1x32, .f32⟩
  | 59 => ⟨S1x32, .f32⟩
  | 60 => ⟨S1x32, .f32⟩
  | 61 => ⟨S1x32, .f32⟩
  | 62 => ⟨S32x32, .f32⟩
  | 63 => ⟨S32x32, .f32⟩
  | 64 => ⟨S32x32, .f32⟩
  | 65 => ⟨S_, .f32⟩
  | 66 => ⟨S32x32, .f32⟩
  | 67 => ⟨S32x32, .f32⟩
  | 68 => ⟨S32x32, .f32⟩
  | 69 => ⟨S_, .f32⟩
  | 70 => ⟨S32x1, .f32⟩
  | 71 => ⟨S32x1, .i1⟩
  | 72 => ⟨S_, .f32⟩
  | 73 => ⟨S_, .f32⟩
  | 74 => ⟨S_, .f32⟩
  | 75 => ⟨S_, .f32⟩
  | 76 => ⟨S32x1, .f32⟩
  | 77 => ⟨S32x1, .f32⟩
  | 78 => ⟨S32x1, .f32⟩
  | 79 => ⟨S32x1, .f32⟩
  | 80 => ⟨S32x32, .f32⟩
  | 81 => ⟨S32x32, .f32⟩
  | 82 => ⟨S8x32x32x32x32, .f32⟩
  | 83 => ⟨S8x32x32x32x32, .f32⟩
  | 84 => ⟨S8x32x32x32x32, .f32⟩
  | 85 => ⟨S_, .f32⟩
  | 86 => ⟨S_, .f32⟩
  | 87 => ⟨S32, .f32⟩
  | 88 => ⟨S32, .f32⟩
  | 89 => ⟨S32x1, .f32⟩
  | 90 => ⟨S1x32, .f32⟩
  | 91 => ⟨S_, .f32⟩
  | 92 => ⟨S1x32, .f32⟩
  | 93 => ⟨S1x32, .f32⟩
  | 94 => ⟨S_, .f32⟩
  | 95 => ⟨S1x32, .f32⟩
  | 96 => ⟨S1x32, .f32⟩
  | 97 => ⟨S1x32, .f32⟩
  | 98 => ⟨S1x32, .f32⟩
  | 99 => ⟨S32x32, .f32⟩
  | 100 => ⟨S32x32, .f32⟩
  | 101 => ⟨S32x32, .f32⟩
  | 102 => ⟨S_, .f32⟩
  | 103 => ⟨S32x32, .f32⟩
  | 104 => ⟨S32x32, .f32⟩
  | 105 => ⟨S32x32, .f32⟩
  | 106 => ⟨S_, .f32⟩
  | 107 => ⟨S32x1, .f32⟩
  | 108 => ⟨S32x1, .i1⟩
  | 109 => ⟨S_, .f32⟩
  | 110 => ⟨S_, .f32⟩
  | 111 => ⟨S_, .f32⟩
  | 112 => ⟨S_, .f32⟩
  | 113 => ⟨S32x1, .f32⟩
  | 114 => ⟨S32x1, .f32⟩
  | 115 => ⟨S32x1, .f32⟩
  | 116 => ⟨S32x1, .f32⟩
  | 117 => ⟨S32x32, .f32⟩
  | 118 => ⟨S32x32, .f32⟩
  | 119 => ⟨S8x32x32x32x32, .f32⟩
  | _ => ⟨S8x32x64x64x64, .f32⟩

abbrev hbmTy (i : Nat) : BufTy := match i / 128 with
  | 0 => hbmTy0_0 i
  | 1 => hbmTy0_1 i
  | 2 => hbmTy0_2 i
  | _ => ⟨S8x32x64x64x64, .f32⟩

abbrev bufTy : (tb : Table) → Fin (tcTables nBuf tb) → BufTy
  | .hbm, ⟨i, _⟩ => hbmTy i
  | _, _ => ⟨S8x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_call1_v0 : Ref sig .tc := ⟨.hbm, 67, rfl⟩
abbrev main_call1_v1 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_cst_19 : Ref sig .tc := ⟨.hbm, 103, rfl⟩
abbrev main_v78 : Ref sig .tc := ⟨.hbm, 104, rfl⟩
abbrev main_call2_v0 : Ref sig .tc := ⟨.hbm, 105, rfl⟩
abbrev main_call2_v1 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_21 : Ref sig .tc := ⟨.hbm, 121, rfl⟩
abbrev main_v92 : Ref sig .tc := ⟨.hbm, 122, rfl⟩
abbrev main_v93 : Ref sig .tc := ⟨.hbm, 123, rfl⟩
abbrev main_cst_22 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_23 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_24 : Ref sig .tc := ⟨.hbm, 136, rfl⟩
abbrev main_v104 : Ref sig .tc := ⟨.hbm, 137, rfl⟩
abbrev main_v105 : Ref sig .tc := ⟨.hbm, 138, rfl⟩
abbrev main_cst_25 : Ref sig .tc := ⟨.hbm, 139, rfl⟩
abbrev main_v106 : Ref sig .tc := ⟨.hbm, 140, rfl⟩
abbrev main_cst_26 : Ref sig .tc := ⟨.hbm, 141, rfl⟩
abbrev main_v107 : Ref sig .tc := ⟨.hbm, 142, rfl⟩
abbrev main_call3_v0 : Ref sig .tc := ⟨.hbm, 143, rfl⟩
abbrev main_call3_v1 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_27 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_28 : Ref sig .tc := ⟨.hbm, 159, rfl⟩
abbrev main_v121 : Ref sig .tc := ⟨.hbm, 160, rfl⟩
abbrev main_v122 : Ref sig .tc := ⟨.hbm, 161, rfl⟩
abbrev main_cst_29 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_30 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_31 : Ref sig .tc := ⟨.hbm, 174, rfl⟩
abbrev main_v133 : Ref sig .tc := ⟨.hbm, 175, rfl⟩
abbrev main_v134 : Ref sig .tc := ⟨.hbm, 176, rfl⟩
abbrev main_cst_32 : Ref sig .tc := ⟨.hbm, 177, rfl⟩
abbrev main_v135 : Ref sig .tc := ⟨.hbm, 178, rfl⟩
abbrev main_cst_33 : Ref sig .tc := ⟨.hbm, 179, rfl⟩
abbrev main_v136 : Ref sig .tc := ⟨.hbm, 180, rfl⟩
abbrev main_call4_v0 : Ref sig .tc := ⟨.hbm, 181, rfl⟩
abbrev main_call4_v1 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c : Ref sig .tc := ⟨.hbm, 190, rfl⟩
abbrev main_call5_v0 : Ref sig .tc := ⟨.hbm, 191, rfl⟩
abbrev main_v144 : Ref sig .tc := ⟨.hbm, 192, rfl⟩
abbrev main_cst_34 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_35 : Ref sig .tc := ⟨.hbm, 199, rfl⟩
abbrev main_v150 : Ref sig .tc := ⟨.hbm, 200, rfl⟩
abbrev main_v151 : Ref sig .tc := ⟨.hbm, 201, rfl⟩
abbrev main_cst_36 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_37 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_38 : Ref sig .tc := ⟨.hbm, 214, rfl⟩
abbrev main_v162 : Ref sig .tc := ⟨.hbm, 215, rfl⟩
abbrev main_v163 : Ref sig .tc := ⟨.hbm, 216, rfl⟩
abbrev main_cst_39 : Ref sig .tc := ⟨.hbm, 217, rfl⟩
abbrev main_v164 : Ref sig .tc := ⟨.hbm, 218, rfl⟩
abbrev main_cst_40 : Ref sig .tc := ⟨.hbm, 219, rfl⟩
abbrev main_v165 : Ref sig .tc := ⟨.hbm, 220, rfl⟩
abbrev main_call6_v0 : Ref sig .tc := ⟨.hbm, 221, rfl⟩
abbrev main_call6_v1 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_41 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_cst_42 : Ref sig .tc := ⟨.hbm, 236, rfl⟩
abbrev main_v178 : Ref sig .tc := ⟨.hbm, 237, rfl⟩
abbrev main_v179 : Ref sig .tc := ⟨.hbm, 238, rfl⟩
abbrev main_cst_43 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_44 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_45 : Ref sig .tc := ⟨.hbm, 251, rfl⟩
abbrev main_v190 : Ref sig .tc := ⟨.hbm, 252, rfl⟩
abbrev main_v191 : Ref sig .tc := ⟨.hbm, 253, rfl⟩
abbrev main_cst_46 : Ref sig .tc := ⟨.hbm, 254, rfl⟩
abbrev main_v192 : Ref sig .tc := ⟨.hbm, 255, rfl⟩
abbrev main_cst_47 : Ref sig .tc := ⟨.hbm, 256, rfl⟩
abbrev main_v193 : Ref sig .tc := ⟨.hbm, 257, rfl⟩
abbrev main_call7_v0 : Ref sig .tc := ⟨.hbm, 258, rfl⟩
abbrev main_call7_v1 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_48 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_49 : Ref sig .tc := ⟨.hbm, 273, rfl⟩
abbrev main_v206 : Ref sig .tc := ⟨.hbm, 274, rfl⟩
abbrev main_v207 : Ref sig .tc := ⟨.hbm, 275, rfl⟩
abbrev main_cst_50 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_cst_51 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_cst_52 : Ref sig .tc := ⟨.hbm, 288, rfl⟩
abbrev main_v218 : Ref sig .tc := ⟨.hbm, 289, rfl⟩
abbrev main_v219 : Ref sig .tc := ⟨.hbm, 290, rfl⟩
abbrev main_cst_53 : Ref sig .tc := ⟨.hbm, 291, rfl⟩
abbrev main_v220 : Ref sig .tc := ⟨.hbm, 292, rfl⟩
abbrev main_cst_54 : Ref sig .tc := ⟨.hbm, 293, rfl⟩
abbrev main_v221 : Ref sig .tc := ⟨.hbm, 294, rfl⟩
abbrev main_call8_v0 : Ref sig .tc := ⟨.hbm, 295, rfl⟩
abbrev main_call8_v1 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_cst_55 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_cst_56 : Ref sig .tc := ⟨.hbm, 310, rfl⟩
abbrev main_v234 : Ref sig .tc := ⟨.hbm, 311, rfl⟩
abbrev main_v235 : Ref sig .tc := ⟨.hbm, 312, rfl⟩
abbrev main_cst_57 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_cst_58 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_cst_59 : Ref sig .tc := ⟨.hbm, 325, rfl⟩
abbrev main_v246 : Ref sig .tc := ⟨.hbm, 326, rfl⟩
abbrev main_v247 : Ref sig .tc := ⟨.hbm, 327, rfl⟩
abbrev main_cst_60 : Ref sig .tc := ⟨.hbm, 328, rfl⟩
abbrev main_v248 : Ref sig .tc := ⟨.hbm, 329, rfl⟩
abbrev main_cst_61 : Ref sig .tc := ⟨.hbm, 330, rfl⟩
abbrev main_v249 : Ref sig .tc := ⟨.hbm, 331, rfl⟩
abbrev main_call9_v0 : Ref sig .tc := ⟨.hbm, 332, rfl⟩
abbrev main_call9_v1 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_cst_62 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_cst_63 : Ref sig .tc := ⟨.hbm, 347, rfl⟩
abbrev main_v262 : Ref sig .tc := ⟨.hbm, 348, rfl⟩
abbrev main_v263 : Ref sig .tc := ⟨.hbm, 349, rfl⟩
abbrev main_cst_64 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_cst_65 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_cst_66 : Ref sig .tc := ⟨.hbm, 362, rfl⟩
abbrev main_v274 : Ref sig .tc := ⟨.hbm, 363, rfl⟩
abbrev main_v275 : Ref sig .tc := ⟨.hbm, 364, rfl⟩
abbrev main_cst_67 : Ref sig .tc := ⟨.hbm, 365, rfl⟩
abbrev main_v276 : Ref sig .tc := ⟨.hbm, 366, rfl⟩
abbrev main_cst_68 : Ref sig .tc := ⟨.hbm, 367, rfl⟩
abbrev main_v277 : Ref sig .tc := ⟨.hbm, 368, rfl⟩
abbrev main_call10_v0 : Ref sig .tc := ⟨.hbm, 369, rfl⟩
abbrev main_call10_v1 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩

abbrev nD : Nat := 1
abbrev τ : Topo := Topo.v7x

variable {F : FTy → Type} [FloatOps F]
-- ==== Proof.Dct.lean ====
module

public import Mathlib.Analysis.SpecialFunctions.Trigonometric.Basic
public import Mathlib.Data.Matrix.Mul
public import Mathlib.Tactic.FieldSimp
public import Mathlib.Tactic.LinearCombination

/-! The orthonormal cosine matrix over the real numbers, and its inverse. -/

@[expose] public section

open Finset

namespace Cert.Math

/-- Entry `(k, n)` of the orthonormal cosine matrix of order `N`. -/
noncomputable def dct (N k n : ℕ) : ℝ :=
  Real.cos (Real.pi * (2 * n + 1) * k / (2 * N))
    * (if k = 0 then Real.sqrt (1 / N) else Real.sqrt (2 / N))

/-- The sum of the first cosines of the multiples of an angle telescopes against the sine of its half. -/
theorem sin_mul_sum_cos (a : ℝ) (K : ℕ) :
    Real.sin (a / 2) * (1 + 2 * ∑ k ∈ range K, Real.cos ((k + 1 : ℕ) * a))
      = Real.sin ((K + 1 / 2) * a) := by
  induction K with
  | zero => simp; ring_nf
  | succ K ih =>
    rw [sum_range_succ]
    have h1 : ((K : ℝ) + 1 / 2) * a = ((K + 1 : ℕ) : ℝ) * a - a / 2 := by push_cast; ring
    have h2 : (((K + 1 : ℕ) : ℝ) + 1 / 2) * a = ((K + 1 : ℕ) : ℝ) * a + a / 2 := by push_cast; ring
    rw [h1, Real.sin_sub] at ih
    rw [h2, Real.sin_add]
    linear_combination ih

/-- At the angle `π j / N`, for an integer `j` strictly between `-2 N` and `2 N` and not zero, the
first `N - 1` cosines of its multiples sum to `(-1 - cos (π j)) / 2`. -/
theorem sum_cos {N : ℕ} (hN : 0 < N) (j : ℤ) (h0 : j ≠ 0) (hl : -(2 * N : ℤ) < j)
    (hu : j < 2 * N) :
    ∑ k ∈ range (N - 1), Real.cos ((k + 1 : ℕ) * (Real.pi * j / N))
      = (-1 - Real.cos (j * Real.pi)) / 2 := by
  have hNr : (N : ℝ) ≠ 0 := by exact_mod_cast hN.ne'
  have hpi := Real.pi_ne_zero
  have hs : Real.sin (Real.pi * j / N / 2) ≠ 0 := by
    intro h
    obtain ⟨n, hn⟩ := Real.sin_eq_zero_iff.mp h
    have hj : (j : ℝ) = n * (2 * N) := by
      field_simp at hn
      have := hn
      nlinarith [this]
    have hj' : j = n * (2 * N) := by exact_mod_cast hj
    have hNz : (0 : ℤ) < N := by exact_mod_cast hN
    rcases lt_trichotomy n 0 with hlt | rfl | hgt
    · nlinarith
    · exact h0 (by simpa using hj')
    · nlinarith
  have ht := sin_mul_sum_cos (Real.pi * j / N) (N - 1)
  have he : (((N - 1 : ℕ) : ℝ) + 1 / 2) * (Real.pi * j / N)
      = j * Real.pi - Real.pi * j / N / 2 := by
    rw [Nat.cast_sub hN]; push_cast; field_simp; ring
  rw [he, Real.sin_sub, Real.sin_int_mul_pi, zero_mul, zero_sub] at ht
  have h3 : Real.sin (Real.pi * j / N / 2)
      * (1 + 2 * ∑ k ∈ range (N - 1), Real.cos ((k + 1 : ℕ) * (Real.pi * j / N)) + Real.cos (j * Real.pi)) = 0 := by
    linear_combination ht
  have h4 := (mul_eq_zero.mp h3).resolve_left hs
  linear_combination h4 / 2

/-- The product of two entries of a row, summed over the rows, as two sums of cosines. -/
theorem sum_dct_mul {N : ℕ} (hN : 0 < N) (n m : ℕ) :
    ∑ k ∈ range N, dct N k n * dct N k m
      = (1 + ∑ k ∈ range (N - 1), Real.cos ((k + 1 : ℕ) * (Real.pi * ((n - m : ℤ) : ℝ) / N))
          + ∑ k ∈ range (N - 1), Real.cos ((k + 1 : ℕ) * (Real.pi * ((n + m + 1 : ℤ) : ℝ) / N))) / N := by
  have hNr : (N : ℝ) ≠ 0 := by exact_mod_cast hN.ne'
  obtain ⟨M, rfl⟩ : ∃ M, N = M + 1 := ⟨N - 1, by omega⟩
  rw [sum_range_succ', Nat.add_sub_cancel, add_assoc, ← sum_add_distrib]
  have hs1 : Real.sqrt (1 / ((M + 1 : ℕ) : ℝ)) * Real.sqrt (1 / ((M + 1 : ℕ) : ℝ)) = 1 / ((M + 1 : ℕ) : ℝ) :=
    Real.mul_self_sqrt (by positivity)
  have hs2 : Real.sqrt (2 / ((M + 1 : ℕ) : ℝ)) * Real.sqrt (2 / ((M + 1 : ℕ) : ℝ)) = 2 / ((M + 1 : ℕ) : ℝ) :=
    Real.mul_self_sqrt (by positivity)
  have h0 : dct (M + 1) 0 n * dct (M + 1) 0 m = 1 / ((M + 1 : ℕ) : ℝ) := by
    simp only [dct, if_true, Nat.cast_zero, mul_zero, zero_div, Real.cos_zero, one_mul]
    exact hs1
  rw [h0, add_div, add_comm, div_eq_mul_inv (∑ _ ∈ _, _), sum_mul]
  congr 1
  refine sum_congr rfl fun k _ => ?_
  simp only [dct, Nat.succ_ne_zero, if_false]
  have e1 : ((k + 1 : ℕ) : ℝ) * (Real.pi * ((n - m : ℤ) : ℝ) / ((M + 1 : ℕ) : ℝ))
      = Real.pi * (2 * n + 1) * (k + 1 : ℕ) / (2 * (M + 1 : ℕ))
        - Real.pi * (2 * m + 1) * (k + 1 : ℕ) / (2 * (M + 1 : ℕ)) := by
    push_cast at hNr ⊢; field_simp; ring
  have e2 : ((k + 1 : ℕ) : ℝ) * (Real.pi * ((n + m + 1 : ℤ) : ℝ) / ((M + 1 : ℕ) : ℝ))
      = Real.pi * (2 * n + 1) * (k + 1 : ℕ) / (2 * (M + 1 : ℕ))
        + Real.pi * (2 * m + 1) * (k + 1 : ℕ) / (2 * (M + 1 : ℕ)) := by
    push_cast at hNr ⊢; field_simp; ring
  rw [e1, e2, Real.cos_sub, Real.cos_add]
  linear_combination (Real.cos (Real.pi * (2 * n + 1) * (k + 1 : ℕ) / (2 * (M + 1 : ℕ)))
    * Real.cos (Real.pi * (2 * m + 1) * (k + 1 : ℕ) / (2 * (M + 1 : ℕ)))) * hs2

/-- The columns of the cosine matrix are orthonormal. -/
theorem sum_dct_mul_eq {N : ℕ} (n m : ℕ) (hn : n < N) (hm : m < N) :
    ∑ k ∈ range N, dct N k n * dct N k m = if n = m then 1 else 0 := by
  have hN : 0 < N := by omega
  have hNr : (N : ℝ) ≠ 0 := by exact_mod_cast hN.ne'
  rw [sum_dct_mul hN, sum_cos hN (n + m + 1 : ℤ) (by omega) (by omega) (by omega)]
  split_ifs with h
  · subst h
    have hc : Real.cos (((n + n + 1 : ℤ) : ℝ) * Real.pi) = -1 := by
      have : (((n + n + 1 : ℤ) : ℝ) * Real.pi) = n * (2 * Real.pi) + Real.pi := by push_cast; ring
      rw [this, Real.cos_nat_mul_two_pi_add_pi]
    rw [hc]
    simp only [sub_self, Int.cast_zero, mul_zero, zero_div, Real.cos_zero, sum_const, card_range,
      nsmul_eq_mul, mul_one]
    rw [Nat.cast_sub hN]
    push_cast
    field_simp
    ring
  · rw [sum_cos hN (n - m : ℤ) (by omega) (by omega) (by omega)]
    have hc : Real.cos (((n + m + 1 : ℤ) : ℝ) * Real.pi) = - Real.cos (((n - m : ℤ) : ℝ) * Real.pi) := by
      have : (((n + m + 1 : ℤ) : ℝ) * Real.pi)
          = (((n - m : ℤ) : ℝ) * Real.pi + Real.pi) + m * (2 * Real.pi) := by push_cast; ring
      rw [this, Real.cos_add_nat_mul_two_pi, Real.cos_add_pi]
    rw [hc]
    ring

/-- The cosine matrix of order `N`, its rows the frequencies. -/
noncomputable def D (N : ℕ) : Matrix (Fin N) (Fin N) ℝ := fun k n => dct N k n

/-- The transpose of the cosine matrix is its inverse. -/
theorem transpose_mul_D (N : ℕ) : (D N).transpose * D N = 1 := by
  ext n m
  rw [Matrix.mul_apply, Matrix.one_apply]
  have := sum_dct_mul_eq (N := N) n m n.isLt m.isLt
  rw [Finset.sum_range (fun k => dct N k n * dct N k m)] at this
  simpa [D, Fin.ext_iff] using this

end Cert.Math

end
-- ==== Proof.Along.lean ====
module

public import proofs.«01_k».proof.Proof.Dct

/-! Matrices applied along the axes of an array of five axes, over the real numbers, and the
equation between the chain of transforms with its crop and padding and one small matrix along
each of the last three axes. -/

@[expose] public section

open Finset

namespace Cert.Math

/-- An array of five axes. -/
abbrev Arr (a b c d e : ℕ) := Fin a → Fin b → Fin c → Fin d → Fin e → ℝ

variable {a b c d e n k : ℕ}

/-- The matrix `M` along the first axis. -/
def along0 (M : Matrix (Fin n) (Fin a) ℝ) (x : Arr a b c d e) : Arr n b c d e :=
  fun i0 i1 i2 i3 i4 => ∑ j, x j i1 i2 i3 i4 * M i0 j
/-- The matrix `M` along the second axis. -/
def along1 (M : Matrix (Fin n) (Fin b) ℝ) (x : Arr a b c d e) : Arr a n c d e :=
  fun i0 i1 i2 i3 i4 => ∑ j, x i0 j i2 i3 i4 * M i1 j
/-- The matrix `M` along the third axis. -/
def along2 (M : Matrix (Fin n) (Fin c) ℝ) (x : Arr a b c d e) : Arr a b n d e :=
  fun i0 i1 i2 i3 i4 => ∑ j, x i0 i1 j i3 i4 * M i2 j
/-- The matrix `M` along the fourth axis. -/
def along3 (M : Matrix (Fin n) (Fin d) ℝ) (x : Arr a b c d e) : Arr a b c n e :=
  fun i0 i1 i2 i3 i4 => ∑ j, x i0 i1 i2 j i4 * M i3 j
/-- The matrix `M` along the fifth axis. -/
def along4 (M : Matrix (Fin n) (Fin e) ℝ) (x : Arr a b c d e) : Arr a b c d n :=
  fun i0 i1 i2 i3 i4 => ∑ j, x i0 i1 i2 i3 j * M i4 j

/-- Two weighted sums over different indices are taken in either order. -/
theorem weighted_comm {p q : ℕ} (f : Fin p → Fin q → ℝ) (u : Fin p → ℝ) (v : Fin q → ℝ) :
    ∑ i, (∑ j, f i j * v j) * u i = ∑ j, (∑ i, f i j * u i) * v j := by
  simp only [sum_mul]
  rw [sum_comm]
  exact sum_congr rfl fun _ _ => sum_congr rfl fun _ _ => by ring

/-- A weighted sum of weighted sums has the product of the weights' matrices for its weights. -/
theorem weighted_mul {p q r : ℕ} (f : Fin r → ℝ) (M : Matrix (Fin p) (Fin q) ℝ)
    (N : Matrix (Fin q) (Fin r) ℝ) (i : Fin p) :
    ∑ j, (∑ l, f l * N j l) * M i j = ∑ l, f l * (M * N) i l := by
  calc ∑ j, (∑ l, f l * N j l) * M i j
      = ∑ j, ∑ l, f l * (M i j * N j l) :=
        sum_congr rfl fun _ _ => by rw [sum_mul]; exact sum_congr rfl fun _ _ => by ring
    _ = ∑ l, ∑ j, f l * (M i j * N j l) := sum_comm
    _ = ∑ l, f l * (M * N) i l :=
        sum_congr rfl fun l _ => by rw [Matrix.mul_apply, mul_sum]

section Commute
variable {m : ℕ} (x : Arr a b c d e)

/-- Matrices along the first and the second axis commute. -/
theorem along0_along1 (M : Matrix (Fin n) (Fin a) ℝ) (N : Matrix (Fin m) (Fin b) ℝ) :
    along0 M (along1 N x) = along1 N (along0 M x) := by
  funext i0 i1 i2 i3 i4; exact weighted_comm _ _ _
/-- Matrices along the first and the third axis commute. -/
theorem along0_along2 (M : Matrix (Fin n) (Fin a) ℝ) (N : Matrix (Fin m) (Fin c) ℝ) :
    along0 M (along2 N x) = along2 N (along0 M x) := by
  funext i0 i1 i2 i3 i4; exact weighted_comm _ _ _
/-- Matrices along the first and the fourth axis commute. -/
theorem along0_along3 (M : Matrix (Fin n) (Fin a) ℝ) (N : Matrix (Fin m) (Fin d) ℝ) :
    along0 M (along3 N x) = along3 N (along0 M x) := by
  funext i0 i1 i2 i3 i4; exact weighted_comm _ _ _
/-- Matrices along the first and the fifth axis commute. -/
theorem along0_along4 (M : Matrix (Fin n) (Fin a) ℝ) (N : Matrix (Fin m) (Fin e) ℝ) :
    along0 M (along4 N x) = along4 N (along0 M x) := by
  funext i0 i1 i2 i3 i4; exact weighted_comm _ _ _
/-- Matrices along the second and the third axis commute. -/
theorem along1_along2 (M : Matrix (Fin n) (Fin b) ℝ) (N : Matrix (Fin m) (Fin c) ℝ) :
    along1 M (along2 N x) = along2 N (along1 M x) := by
  funext i0 i1 i2 i3 i4; exact weighted_comm _ _ _
/-- Matrices along the second and the fourth axis commute. -/
theorem along1_along3 (M : Matrix (Fin n) (Fin b) ℝ) (N : Matrix (Fin m) (Fin d) ℝ) :
    along1 M (along3 N x) = along3 N (along1 M x) := by
  funext i0 i1 i2 i3 i4; exact weighted_comm _ _ _
/-- Matrices along the second and the fifth axis commute. -/
theorem along1_along4 (M : Matrix (Fin n) (Fin b) ℝ) (N : Matrix (Fin m) (Fin e) ℝ) :
    along1 M (along4 N x) = along4 N (along1 M x) := by
  funext i0 i1 i2 i3 i4; exact weighted_comm _ _ _
/-- Matrices along the third and the fourth axis commute. -/
theorem along2_along3 (M : Matrix (Fin n) (Fin c) ℝ) (N : Matrix (Fin m) (Fin d) ℝ) :
    along2 M (along3 N x) = along3 N (along2 M x) := by
  funext i0 i1 i2 i3 i4; exact weighted_comm _ _ _
/-- Matrices along the third and the fifth axis commute. -/
theorem along2_along4 (M : Matrix (Fin n) (Fin c) ℝ) (N : Matrix (Fin m) (Fin e) ℝ) :
    along2 M (along4 N x) = along4 N (along2 M x) := by
  funext i0 i1 i2 i3 i4; exact weighted_comm _ _ _
/-- Matrices along the fourth and the fifth axis commute. -/
theorem along3_along4 (M : Matrix (Fin n) (Fin d) ℝ) (N : Matrix (Fin m) (Fin e) ℝ) :
    along3 M (along4 N x) = along4 N (along3 M x) := by
  funext i0 i1 i2 i3 i4; exact weighted_comm _ _ _

/-- Two matrices along the first axis, one after the other, are their product along it. -/
theorem along0_along0 (M : Matrix (Fin n) (Fin m) ℝ) (N : Matrix (Fin m) (Fin a) ℝ) :
    along0 M (along0 N x) = along0 (M * N) x := by
  funext i0 i1 i2 i3 i4; exact weighted_mul _ _ _ _
/-- Two matrices along the second axis, one after the other, are their product along it. -/
theorem along1_along1 (M : Matrix (Fin n) (Fin m) ℝ) (N : Matrix (Fin m) (Fin b) ℝ) :
    along1 M (along1 N x) = along1 (M * N) x := by
  funext i0 i1 i2 i3 i4; exact weighted_mul _ _ _ _
/-- Two matrices along the third axis, one after the other, are their product along it. -/
theorem along2_along2 (M : Matrix (Fin n) (Fin m) ℝ) (N : Matrix (Fin m) (Fin c) ℝ) :
    along2 M (along2 N x) = along2 (M * N) x := by
  funext i0 i1 i2 i3 i4; exact weighted_mul _ _ _ _
/-- Two matrices along the fourth axis, one after the other, are their product along it. -/
theorem along3_along3 (M : Matrix (Fin n) (Fin m) ℝ) (N : Matrix (Fin m) (Fin d) ℝ) :
    along3 M (along3 N x) = along3 (M * N) x := by
  funext i0 i1 i2 i3 i4; exact weighted_mul _ _ _ _
/-- Two matrices along the fifth axis, one after the other, are their product along it. -/
theorem along4_along4 (M : Matrix (Fin n) (Fin m) ℝ) (N : Matrix (Fin m) (Fin e) ℝ) :
    along4 M (along4 N x) = along4 (M * N) x := by
  funext i0 i1 i2 i3 i4; exact weighted_mul _ _ _ _

/-- The identity along the first axis changes nothing. -/
theorem along0_one : along0 (1 : Matrix (Fin a) (Fin a) ℝ) x = x := by
  funext i0 i1 i2 i3 i4; simp [along0, Matrix.one_apply]
/-- The identity along the second axis changes nothing. -/
theorem along1_one : along1 (1 : Matrix (Fin b) (Fin b) ℝ) x = x := by
  funext i0 i1 i2 i3 i4; simp [along1, Matrix.one_apply]
end Commute

/-- The matrix that keeps the first 28 of 64 frequencies and sets the last four of 32 to zero. -/
def keep : Matrix (Fin 32) (Fin 64) ℝ := fun i j => if i.val = j.val ∧ i.val < 28 then 1 else 0

/-- A sum against a row of `keep` is the entry kept, or zero. -/
theorem sum_mul_keep (f : Fin 64 → ℝ) (i : Fin 32) :
    ∑ j, f j * keep i j = if i.val < 28 then f ⟨i.val, by omega⟩ else 0 := by
  split_ifs with h
  · rw [Finset.sum_eq_single (⟨i.val, by omega⟩ : Fin 64)]
    · simp [keep, h]
    · intro j _ hj
      have : ¬ (i.val = j.val) := fun h' => hj (Fin.ext h'.symm)
      simp [keep, this]
    · simp
  · exact Finset.sum_eq_zero fun j _ => by simp [keep, h]

/-- The first 28 frequencies of the last three axes, the rest of 32 filled with zeros. -/
def crop (x : Arr a b 64 64 64) : Arr a b 32 32 32 := fun i0 i1 i2 i3 i4 =>
  if i2.val < 28 ∧ i3.val < 28 ∧ i4.val < 28 then
    x i0 i1 ⟨i2.val, by omega⟩ ⟨i3.val, by omega⟩ ⟨i4.val, by omega⟩ else 0

/-- The crop and the padding are the matrix `keep` along each of the last three axes. -/
theorem crop_eq (x : Arr a b 64 64 64) : crop x = along4 keep (along3 keep (along2 keep x)) := by
  funext i0 i1 i2 i3 i4
  simp only [along4, along3, along2, sum_mul_keep, crop]
  split_ifs <;> first | rfl | (exfalso; tauto)

/-- The small matrix: a signal of 64 samples to the 32 samples that its first 28 frequencies give. -/
noncomputable def T : Matrix (Fin 32) (Fin 64) ℝ := (D 32).transpose * keep * D 64

/-- An entry of the small matrix is a sum over the 28 frequencies kept. -/
theorem T_apply (i : Fin 32) (p : Fin 64) :
    T i p = ∑ f : Fin 28, dct 32 f i * dct 64 f p := by
  rw [T, Matrix.mul_assoc, Matrix.mul_apply]
  have h : ∀ f : Fin 32, (D 32).transpose i f * (keep * D 64) f p
      = if f.val < 28 then dct 32 f i * dct 64 f p else 0 := by
    intro f
    have hk : (keep * D 64) f p = if f.val < 28 then dct 64 f p else 0 := by
      rw [Matrix.mul_apply]
      exact (sum_congr rfl fun _ _ => mul_comm _ _).trans (sum_mul_keep (fun j => D 64 j p) f)
    rw [hk]
    split_ifs <;> simp [D]
  rw [sum_congr rfl fun f _ => h f]
  exact (Fin.sum_univ_add (a := 28) (b := 4)
    (fun f => if f.val < 28 then dct 32 f i * dct 64 f p else 0)).trans (by simp)

/-- The chain of transforms over all five axes with the crop and the padding between, as the
problem states it. -/
noncomputable def chain (x : Arr 8 32 64 64 64) : Arr 8 32 32 32 32 :=
  along4 (D 32).transpose (along3 (D 32).transpose (along2 (D 32).transpose
    (along1 (D 32).transpose (along0 (D 8).transpose (crop
      (along4 (D 64) (along3 (D 64) (along2 (D 64) (along1 (D 32) (along0 (D 8) x))))))))))

/-- The chain is the small matrix along each of the last three axes: the transforms of the first
two axes cancel. -/
theorem chain_eq (x : Arr 8 32 64 64 64) :
    chain x = along2 T (along3 T (along4 T x)) := by
  rw [chain, crop_eq]
  simp only [along0_along1, along0_along2, along0_along3, along0_along4, along1_along2,
    along1_along3, along1_along4, along2_along3, along2_along4, along3_along4,
    along0_along0, along1_along1, along2_along2, along3_along3, along4_along4,
    transpose_mul_D, along0_one, along1_one, T, Matrix.mul_assoc]

end Cert.Math

end
-- ==== Proof.Entries.lean ====
module

public import proofs.«01_k».proof.Proof.Along
public import Idealize.ShloMosaic.Lib.IdealHost
public import Idealize.ShloMosaic.PureOps.Ideal.Laws

/-! The scalars of both programs: the constants as real numbers, an entry of a cosine matrix as both
programs compute it, and weighted sums of real numbers inside the extended reals. -/

@[expose] public section

namespace Cert.Math

open Idealize.ShloMosaic

/-- The pattern of minus one. -/
theorem lit_neg_one : Ideal.ofBits .f32 0xBF800000#32 = ((-1 : ℝ) : EReal) := by
  simp [Ideal.ofBits, Ideal.ieee, -EReal.coe_mul]; norm_num
/-- The pattern of two. -/
theorem lit_two : Ideal.ofBits .f32 0x40000000#32 = ((2 : ℝ) : EReal) := by
  simp [Ideal.ofBits, Ideal.ieee, -EReal.coe_mul]; norm_num
/-- The pattern of 16. -/
theorem lit_16 : Ideal.ofBits .f32 0x41800000#32 = ((16 : ℝ) : EReal) := by
  simp [Ideal.ofBits, Ideal.ieee, -EReal.coe_mul]; norm_num
/-- The pattern of 64. -/
theorem lit_64 : Ideal.ofBits .f32 0x42800000#32 = ((64 : ℝ) : EReal) := by
  simp [Ideal.ofBits, Ideal.ieee, -EReal.coe_mul]; norm_num
/-- The pattern of 128. -/
theorem lit_128 : Ideal.ofBits .f32 0x43000000#32 = ((128 : ℝ) : EReal) := by
  simp [Ideal.ofBits, Ideal.ieee, -EReal.coe_mul]; norm_num
/-- The pattern of a quarter. -/
theorem lit_1_4 : Ideal.ofBits .f32 0x3E800000#32 = ((1 / 4 : ℝ) : EReal) := by
  simp [Ideal.ofBits, Ideal.ieee, -EReal.coe_mul]; norm_num
/-- The pattern of an eighth. -/
theorem lit_1_8 : Ideal.ofBits .f32 0x3E000000#32 = ((1 / 8 : ℝ) : EReal) := by
  simp [Ideal.ofBits, Ideal.ieee, -EReal.coe_mul]; norm_num
/-- The pattern of a sixteenth. -/
theorem lit_1_16 : Ideal.ofBits .f32 0x3D800000#32 = ((1 / 16 : ℝ) : EReal) := by
  simp [Ideal.ofBits, Ideal.ieee, -EReal.coe_mul]; norm_num
/-- The pattern of a thirty-second. -/
theorem lit_1_32 : Ideal.ofBits .f32 0x3D000000#32 = ((1 / 32 : ℝ) : EReal) := by
  simp [Ideal.ofBits, Ideal.ieee, -EReal.coe_mul]; norm_num
/-- The pattern of a sixty-fourth. -/
theorem lit_1_64 : Ideal.ofBits .f32 0x3C800000#32 = ((1 / 64 : ℝ) : EReal) := by
  simp [Ideal.ofBits, Ideal.ieee, -EReal.coe_mul]; norm_num

/-- A small natural number's word, converted to a float, is that number. -/
theorem sitofp_word (n : ℕ) (h : n < 2 ^ 31) :
    (FloatOps.sitofp (F := Ideal) .f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt] <;> rw [BitVec.toNat_ofNat] <;> omega
  rw [this]; simp

/-- An entry of a cosine matrix as a program computes it from the coordinates' words: the divisor
is twice the order, and the scales are the roots of one and two over the order. -/
theorem entry_eq {N : ℕ} (hN : 0 < N) (k n : ℕ) (hk : k < 2 ^ 31) (hn : n < 2 ^ 31)
    {c u v : EReal} (hc : c = ((2 * N : ℝ) : EReal)) (hu : u = ((1 / N : ℝ) : EReal))
    (hv : v = ((2 / N : ℝ) : EReal)) :
    (Ideal.cos (Ideal.div
        (Ideal.acos (Ideal.ofBits .f32 0xBF800000#32)
            * (Ideal.ofBits .f32 0x40000000#32
                * FloatOps.sitofp (F := Ideal) .f32 (BitVec.ofNat 32 n) + 1)
          * FloatOps.sitofp (F := Ideal) .f32 (BitVec.ofNat 32 k)) c)
      * if FloatOps.sitofp (F := Ideal) .f32 (BitVec.ofNat 32 k) = 0 then Ideal.sqrt u
        else Ideal.sqrt v) = ((dct N k n : ℝ) : EReal) := by
  have hNr : (0 : ℝ) < N := by exact_mod_cast hN
  rw [sitofp_word n hn, sitofp_word k hk, lit_neg_one, lit_two, hc, hu, hv]
  have h1 : Ideal.acos ((-1 : ℝ) : EReal) = ((Real.pi : ℝ) : EReal) := by
    rw [Ideal.acos_coe, if_pos (by norm_num), Real.arccos_neg_one]
  have hu' : Ideal.sqrt ((1 / N : ℝ) : EReal) = ((Real.sqrt (1 / N) : ℝ) : EReal) := by
    rw [Ideal.sqrt_coe, if_neg (not_lt.mpr (by positivity))]
  have hv' : Ideal.sqrt ((2 / N : ℝ) : EReal) = ((Real.sqrt (2 / N) : ℝ) : EReal) := by
    rw [Ideal.sqrt_coe, if_neg (not_lt.mpr (by positivity))]
  rw [h1, hu', hv', Ideal.div_coe (by positivity)]
  have hone : (1 : EReal) = ((1 : ℝ) : EReal) := rfl
  rw [hone, ← EReal.coe_mul, ← EReal.coe_add, ← EReal.coe_mul, ← EReal.coe_mul, ← EReal.coe_mul,
    Ideal.cos_coe]
  have hz : (((k : ℝ) : EReal) = 0) ↔ k = 0 := by
    rw [← EReal.coe_zero, EReal.coe_eq_coe_iff]; exact Nat.cast_eq_zero
  simp only [hz]
  unfold dct
  by_cases h : k = 0
  · simp only [if_pos h]; rw [← EReal.coe_mul]; congr 2; ring_nf
  · simp only [if_neg h]; rw [← EReal.coe_mul]; congr 2; ring_nf

/-- A sum of products of real numbers, taken in the extended reals. -/
theorem coe_sum_mul {n : ℕ} (f g : Fin n → ℝ) :
    ∑ j, ((f j : ℝ) : EReal) * ((g j : ℝ) : EReal) = ((∑ j, f j * g j : ℝ) : EReal) := by
  induction (Finset.univ : Finset (Fin n)) using Finset.induction_on with
  | empty => simp
  | insert a s ha ih =>
    rw [Finset.sum_insert ha, Finset.sum_insert ha, ih, ← EReal.coe_mul, ← EReal.coe_add]

end Cert.Math

end
-- ==== Proof.Table.lean ====
module

public import proofs.«01_k».proof.Proof.Entries
public import proofs.«01_k».proof.Proof.Gen.KernelIdeal.Frame
public import Idealize.ShloMosaic.Lib.Pointwise
public import Idealize.ShloMosaic.Lib.StableHlo.ReadAt
public import Idealize.ShloMosaic.Lib.Pipeline.ValueKit

/-! What the kernel's region finds in its two operands: the small matrix, and the argument's
elements. -/

@[expose] public section

set_option maxRecDepth 16384

namespace Cert.KernelIdeal.Hand

open Idealize.ShloMosaic Idealize.ShloMosaic.TcCoe Cert.KernelIdeal Cert.KernelIdeal.Gen Cert.Math

variable (m : (ℓ : Loc nD τ sig) → Buf (Elt Ideal) ℓ)

/-- The table that the host computes before the region holds the small matrix. -/
theorem table_apply (c : Dev nD) (i : Fin 32) (p : Fin 64) :
    V m c main_v58 (ix2 i p) = ((T i p : ℝ) : EReal) := by
  unfold V V0
  simp only [List.flatten]
  after_reads_at
  pointwise [id_eq]
  rw [T_apply, ← coe_sum_mul]
  refine Finset.sum_congr rfl fun f _ => ?_
  have h := f.isLt
  rw [entry_eq (N := 32) (by norm_num) f.val i.val (by omega) (by omega)
      (lit_64.trans (by norm_num)) (lit_1_32.trans (by norm_num)) (lit_1_16.trans (by norm_num)),
    entry_eq (N := 64) (by norm_num) f.val p.val (by omega) (by omega)
      (lit_128.trans (by norm_num)) (lit_1_64.trans (by norm_num)) (lit_1_32.trans (by norm_num))]

/-- The slabs' array at an index is the argument's element. -/
theorem slabs_apply (c : Dev nD) (n : Fin 256) (h : Fin 2) (p : Fin 32) (q r : Fin 64) :
    V m c main_v0 (ix5 n h p q r)
      = m (c.tc.loc main_arg0) (ix5 ⟨n.val / 32, by omega⟩ ⟨n.val % 32, by omega⟩ ⟨h.val * 32 + p.val, by omega⟩ q r) := by
  unfold V V0
  after_reads_at

end Cert.KernelIdeal.Hand

end
-- ==== Proof.Block.lean ====
module

public import proofs.«01_k».proof.Proof.Entries
public import proofs.«01_k».proof.Proof.Gen.KernelIdeal.Skeleton
public import Idealize.ShloMosaic.Lib.Pointwise

/-! What one grid point of the kernel computes from its blocks. -/

@[expose] public section

set_option maxRecDepth 16384

namespace Cert.KernelIdeal.Hand

open Idealize.ShloMosaic Idealize.ShloMosaic.TcCoe Cert.KernelIdeal Cert.KernelIdeal.Gen Cert.Math

/-- What a grid point writes at slab `s`: the table along the last axis, then along the one before
it, then along the first of the three, whose two halves come in two blocks. -/
theorem block_apply (t : Vec Ideal S32x64 .f32) (u v : Vec Ideal S8x1x32x64x64 .f32)
    (s : Fin 8) (k j i : Fin 32) :
    k0_pay1 t u v (ix4 s k j i)
      = (∑ p : Fin 32, (∑ q : Fin 64, (∑ r : Fin 64, u (ix5 s 0 p q r) * t (ix2 k r))
            * t (ix2 j q)) * t (ix2 i ⟨p.val, by omega⟩)
        + ∑ p : Fin 32, (∑ q : Fin 64, (∑ r : Fin 64, v (ix5 s 0 p q r) * t (ix2 k r))
            * t (ix2 j q)) * t (ix2 i ⟨32 + p.val, by omega⟩) : EReal) := by
  pointwise [k0_pay1]

/-- The same over real numbers: where the table holds the small matrix and the two blocks hold the
halves of one slab of an array, the point writes the array's three-fold product with the matrix. -/
theorem block_eq (t : Vec Ideal S32x64 .f32) (u v : Vec Ideal S8x1x32x64x64 .f32)
    (s : Fin 8) (k j i : Fin 32) (X : Arr 8 32 64 64 64) (b : Fin 8) (c : Fin 32)
    (ht : ∀ i p, t (ix2 i p) = ((T i p : ℝ) : EReal))
    (hu : ∀ (p : Fin 32) q r, u (ix5 s 0 p q r) = ((X b c ⟨p.val, by omega⟩ q r : ℝ) : EReal))
    (hv : ∀ (p : Fin 32) q r, v (ix5 s 0 p q r) = ((X b c ⟨32 + p.val, by omega⟩ q r : ℝ) : EReal)) :
    k0_pay1 t u v (ix4 s k j i) = ((along2 T (along3 T (along4 T X)) b c i j k : ℝ) : EReal) := by
  rw [block_apply]
  simp only [ht, hu, hv, coe_sum_mul]
  rw [← EReal.coe_add]
  exact congrArg _ (Fin.sum_univ_add (a := 32) (b := 32)
    (fun p => along3 T (along4 T X) b c p j k * T i p)).symm

end Cert.KernelIdeal.Hand

end
-- ==== Proof.Output.lean ====
module

public import proofs.«01_k».proof.Proof.Table
public import proofs.«01_k».proof.Proof.Block

/-! What the kernel's output array holds after the region, and what the host makes of it. -/

@[expose] public section

set_option maxRecDepth 16384

namespace Cert.KernelIdeal.Hand

open Idealize.ShloMosaic Idealize.ShloMosaic.TcCoe Cert.KernelIdeal Cert.KernelIdeal.Gen Cert.Math

variable (m : (ℓ : Loc nD τ sig) → Buf (Elt Ideal) ℓ)

/-- The output array: slab `n` holds the batch and channel that `n` counts, its three axes in the
order last, middle, first. -/
noncomputable def outArr (Y : Arr 8 32 32 32 32) : Vec Ideal S256x32x32x32 .f32 := fun x =>
  ((Y ⟨(x 0).val / 32, by have : (x 0).val < 256 := (x 0).isLt; omega⟩ ⟨(x 0).val % 32, by omega⟩
    (x 3) (x 2) (x 1) : ℝ) : EReal)

/-- Where each window's block lies at a grid point. -/
theorem index_eq : ∀ t : Fin cfg0.N, win0_0.index t = ![0, 0] ∧ win0_1.index t = ![t.val, 0, 0, 0, 0]
    ∧ win0_2.index t = ![t.val, 1, 0, 0, 0] ∧ win0_3.index t = ![t.val, 0, 0, 0] := by
  decide +kernel

/-- The table's block is the small matrix. -/
theorem blk0_apply (c : Dev nD) (t : Fin cfg0.N) (i : Fin 32) (p : Fin 64) :
    (iblk m c 0 t : Vec Ideal S32x64 .f32) (ix2 i p) = ((T i p : ℝ) : EReal) := by
  rw [← table_apply m c i p]
  blk_ext [iblk, index_eq t]

/-- The first half of slab `s` of a grid point's block. -/
theorem blk1_apply (c : Dev nD) (t : Fin cfg0.N) (s : Fin 8) (p : Fin 32) (q r : Fin 64)
    (n : Fin 256) (hn : n.val = t.val * 8 + s.val) :
    (iblk m c 1 t : Vec Ideal S8x1x32x64x64 .f32) (ix5 s 0 p q r) = V m c main_v0 (ix5 n 0 p q r) := by
  blk_ext [iblk, index_eq t]

/-- The second half of slab `s` of a grid point's block. -/
theorem blk2_apply (c : Dev nD) (t : Fin cfg0.N) (s : Fin 8) (p : Fin 32) (q r : Fin 64)
    (n : Fin 256) (hn : n.val = t.val * 8 + s.val) :
    (iblk m c 2 t : Vec Ideal S8x1x32x64x64 .f32) (ix5 s 0 p q r) = V m c main_v0 (ix5 n 1 p q r) := by
  blk_ext [iblk, index_eq t]

/-- After the region the output array holds the three-fold product of the argument with the small
matrix. -/
theorem region_out (c : Dev nD) (X : Arr 8 32 64 64 64)
    (hX : ∀ b ch p q r, m (c.tc.loc main_arg0) (ix5 b ch p q r) = ((X b ch p q r : ℝ) : EReal)) :
    (dats m 0 c).arrAt 3 cfg0.N = outArr (along2 T (along3 T (along4 T X))) := by
  refine (dats m 0 c).arrAt_eq_of_covers 3 _ (by decide +kernel) fun t hf y => ?_
  blk_simp
  rw [after0_3]
  frame_out
  obtain ⟨s, k, j, i, rfl⟩ : ∃ (s : Fin 8) (k j i : Fin 32), y = ix4 s k j i :=
    ⟨y 0, y 1, y 2, y 3, eq_ix4 y⟩
  have ht : t.val < 32 := t.isLt
  obtain ⟨n, hn⟩ : ∃ n : Fin 256, n.val = t.val * 8 + s.val := ⟨⟨t.val * 8 + s.val, by omega⟩, rfl⟩
  have he : ((View.whole main_v59).slice (win0_3.rect t)).emb (ix4 s k j i) = ix4 n k j i := by
    blk_ext [index_eq t]
  rw [he]
  refine block_eq _ _ _ s k j i X ⟨n.val / 32, by omega⟩ ⟨n.val % 32, by omega⟩
    (blk0_apply m c t) (fun p q r => ?_) (fun p q r => ?_)
  · rw [blk1_apply m c t s p q r n hn, slabs_apply, hX]
    have h : (0 : Fin 2).val * 32 + p.val = p.val := by show 0 * 32 + p.val = p.val; omega
    simp only [h]
  · rw [blk2_apply m c t s p q r n hn, slabs_apply, hX]
    have h : (1 : Fin 2).val * 32 + p.val = 32 + p.val := by show 1 * 32 + p.val = 32 + p.val; omega
    simp only [h]

/-- The result at an index, from the output array. -/
theorem tail_apply (c : Dev nD) (Y : Arr 8 32 32 32 32)
    (hY : (dats m 0 c).arrAt 3 cfg0.N = outArr Y) (b : Fin 8) (ch i j k : Fin 32) :
    Pipeline.afterTail₀ cfgs (dats m) 0 (V0 m) [hostOps1] c main_v61 (ix5 b ch i j k)
      = ((Y b ch i j k : ℝ) : EReal) := by
  unfold Pipeline.afterTail₀
  after_reads_at
  have h := (dats m 0 c).withArrays_arrAt sharedIn0 (V0 m c) (A_eq m c) 3
  refine (congrFun (h.trans hY) _).trans ?_
  have hb : (b.val * 32 + ch.val) / 32 = b.val := by omega
  have hc : (b.val * 32 + ch.val) % 32 = ch.val := by omega
  show ((Y ⟨(b.val * 32 + ch.val) / 32, _⟩ ⟨(b.val * 32 + ch.val) % 32, _⟩ i j k : ℝ) : EReal) = _
  simp only [hb, hc]

end Cert.KernelIdeal.Hand

end
-- ==== Proof.Steps.lean ====
module

public import proofs.«01_k».proof.Proof.Entries
public import proofs.«01_k».proof.Proof.Gen.ReferenceIdeal
public import Idealize.ShloMosaic.Lib.Pointwise

/-! The reference's operations, one at a time, over arrays of real numbers: a cosine matrix along an
axis, forward and inverse, and the crop with the padding. -/

@[expose] public section

set_option maxRecDepth 16384

namespace Cert.ReferenceIdeal.Hand

open Idealize.ShloMosaic Cert.ReferenceIdeal Cert.ReferenceIdeal.Gen Cert.Math

/-- The array `x` of shape `8 × 32 × 64 × 64 × 64` holds the real numbers `X`. -/
def Big (x : FVec Ideal S8x32x64x64x64 .f32) (X : Arr 8 32 64 64 64) : Prop :=
  ∀ b c p q r, x (ix5 b c p q r) = ((X b c p q r : ℝ) : EReal)

/-- The array `x` of shape `8 × 32 × 32 × 32 × 32` holds the real numbers `X`. -/
def Small (x : FVec Ideal S8x32x32x32x32 .f32) (X : Arr 8 32 32 32 32) : Prop :=
  ∀ b c p q r, x (ix5 b c p q r) = ((X b c p q r : ℝ) : EReal)

/-- The matrix `M` of order 8 is the cosine matrix. -/
def Cos8 (M : FVec Ideal S8x8 .f32) : Prop := ∀ k n, M (ix2 k n) = ((D 8 k n : ℝ) : EReal)
/-- The matrix `M` of order 32 is the cosine matrix. -/
def Cos32 (M : FVec Ideal S32x32 .f32) : Prop := ∀ k n, M (ix2 k n) = ((D 32 k n : ℝ) : EReal)
/-- The matrix `M` of order 64 is the cosine matrix. -/
def Cos64 (M : FVec Ideal S64x64 .f32) : Prop := ∀ k n, M (ix2 k n) = ((D 64 k n : ℝ) : EReal)

/-- The matrix of order 8 as the reference computes it is the cosine matrix. -/
theorem cos8 (r : FVec Ideal S8x1 .f32)
    (hr : r = broadcastInDim S8x1 ![0] bcast_S8_S8x1_0 (sitofp .f32 (iotaInDim S8 32 0))) :
    Cos8 (mulf (Host.cos (Host.divf (mulf (broadcastInDim S8x8 ![0, 1] bcast_S1x8_S8x8_0_1 (mulf (broadcastInDim S1x8 ![] bcast_S_S1x8 (Host.acos (constant S_ .f32 0xBF800000#32))) (addf (mulf (broadcastInDim S1x8 ![] bcast_S_S1x8 (constant S_ .f32 0x40000000#32)) (broadcastInDim S1x8 ![1] bcast_S8_S1x8_1 (sitofp .f32 (iotaInDim S8 32 0)))) (broadcastInDim S1x8 ![] bcast_S_S1x8 (constant S_ .f32 0x3F800000#32))))) (broadcastInDim S8x8 ![0, 1] bcast_S8x1_S8x8_0_1 r)) (broadcastInDim S8x8 ![] bcast_S_S8x8 (constant S_ .f32 0x41800000#32)))) (broadcastInDim S8x8 ![0, 1] bcast_S8x1_S8x8_0_1 (id (select (cmpf .oeq r (broadcastInDim S8x1 ![] bcast_S_S8x1 (constant S_ .f32 0x00000000#32))) (broadcastInDim S8x1 ![] bcast_S_S8x1 (Host.sqrt (constant S_ .f32 0x3E000000#32))) (broadcastInDim S8x1 ![] bcast_S_S8x1 (Host.sqrt (constant S_ .f32 0x3E800000#32))))))) := by
  intro k n
  subst hr
  pointwise [id_eq]
  exact entry_eq (N := 8) (by norm_num) k.val n.val (by omega) (by omega)
    (lit_16.trans (by norm_num)) (lit_1_8.trans (by norm_num)) (lit_1_4.trans (by norm_num))

/-- The matrix of order 32 as the reference computes it is the cosine matrix. -/
theorem cos32 (r : FVec Ideal S32x1 .f32)
    (hr : r = broadcastInDim S32x1 ![0] bcast_S32_S32x1_0 (sitofp .f32 (iotaInDim S32 32 0))) :
    Cos32 (mulf (Host.cos (Host.divf (mulf (broadcastInDim S32x32 ![0, 1] bcast_S1x32_S32x32_0_1 (mulf (broadcastInDim S1x32 ![] bcast_S_S1x32 (Host.acos (constant S_ .f32 0xBF800000#32))) (addf (mulf (broadcastInDim S1x32 ![] bcast_S_S1x32 (constant S_ .f32 0x40000000#32)) (broadcastInDim S1x32 ![1] bcast_S32_S1x32_1 (sitofp .f32 (iotaInDim S32 32 0)))) (broadcastInDim S1x32 ![] bcast_S_S1x32 (constant S_ .f32 0x3F800000#32))))) (broadcastInDim S32x32 ![0, 1] bcast_S32x1_S32x32_0_1 r)) (broadcastInDim S32x32 ![] bcast_S_S32x32 (constant S_ .f32 0x42800000#32)))) (broadcastInDim S32x32 ![0, 1] bcast_S32x1_S32x32_0_1 (id (select (cmpf .oeq r (broadcastInDim S32x1 ![] bcast_S_S32x1 (constant S_ .f32 0x00000000#32))) (broadcastInDim S32x1 ![] bcast_S_S32x1 (Host.sqrt (constant S_ .f32 0x3D000000#32))) (broadcastInDim S32x1 ![] bcast_S_S32x1 (Host.sqrt (constant S_ .f32 0x3D800000#32))))))) := by
  intro k n
  subst hr
  pointwise [id_eq]
  exact entry_eq (N := 32) (by norm_num) k.val n.val (by omega) (by omega)
    (lit_64.trans (by norm_num)) (lit_1_32.trans (by norm_num)) (lit_1_16.trans (by norm_num))

/-- The matrix of order 64 as the reference computes it is the cosine matrix. -/
theorem cos64 (r : FVec Ideal S64x1 .f32)
    (hr : r = broadcastInDim S64x1 ![0] bcast_S64_S64x1_0 (sitofp .f32 (iotaInDim S64 32 0))) :
    Cos64 (mulf (Host.cos (Host.divf (mulf (broadcastInDim S64x64 ![0, 1] bcast_S1x64_S64x64_0_1 (mulf (broadcastInDim S1x64 ![] bcast_S_S1x64 (Host.acos (constant S_ .f32 0xBF800000#32))) (addf (mulf (broadcastInDim S1x64 ![] bcast_S_S1x64 (constant S_ .f32 0x40000000#32)) (broadcastInDim S1x64 ![1] bcast_S64_S1x64_1 (sitofp .f32 (iotaInDim S64 32 0)))) (broadcastInDim S1x64 ![] bcast_S_S1x64 (constant S_ .f32 0x3F800000#32))))) (broadcastInDim S64x64 ![0, 1] bcast_S64x1_S64x64_0_1 r)) (broadcastInDim S64x64 ![] bcast_S_S64x64 (constant S_ .f32 0x43000000#32)))) (broadcastInDim S64x64 ![0, 1] bcast_S64x1_S64x64_0_1 (id (select (cmpf .oeq r (broadcastInDim S64x1 ![] bcast_S_S64x1 (constant S_ .f32 0x00000000#32))) (broadcastInDim S64x1 ![] bcast_S_S64x1 (Host.sqrt (constant S_ .f32 0x3C800000#32))) (broadcastInDim S64x1 ![] bcast_S_S64x1 (Host.sqrt (constant S_ .f32 0x3D000000#32))))))) := by
  intro k n
  subst hr
  pointwise [id_eq]
  exact entry_eq (N := 64) (by norm_num) k.val n.val (by omega) (by omega)
    (lit_128.trans (by norm_num)) (lit_1_64.trans (by norm_num)) (lit_1_32.trans (by norm_num))

/-! ### Forward -/

variable {x : FVec Ideal S8x32x64x64x64 .f32} {X : Arr 8 32 64 64 64}

/-- The forward step along the first axis. -/
theorem fwd0 {M : FVec Ideal S8x8 .f32} (hx : Big x X) (hM : Cos8 M) :
    Big (transpose S8x32x64x64x64 [4, 0, 1, 2, 3] (Host.dotGeneral dot_S32x64x64x64x8_S8x8_S32x64x64x64x8_4_0_0123_1_n_n none (transpose S32x64x64x64x8 [1, 2, 3, 4, 0] x transposes_S8x32x64x64x64_S32x64x64x64x8_1_2_3_4_0) (transpose S8x8 [1, 0] M transposes_S8x8_S8x8_1_0)) transposes_S32x64x64x64x8_S8x32x64x64x64_4_0_1_2_3)
      (along0 (D 8) X) := by
  intro b c p q r
  pointwise
  simp only [hx _ _ _ _ _, hM _ _]
  exact coe_sum_mul _ _

/-- The forward step along the second axis. -/
theorem fwd1 {M : FVec Ideal S32x32 .f32} (hx : Big x X) (hM : Cos32 M) :
    Big (transpose S8x32x64x64x64 [0, 4, 1, 2, 3] (Host.dotGeneral dot_S8x64x64x64x32_S32x32_S8x64x64x64x32_4_0_0123_1_n_n none (transpose S8x64x64x64x32 [0, 2, 3, 4, 1] x transposes_S8x32x64x64x64_S8x64x64x64x32_0_2_3_4_1) (transpose S32x32 [1, 0] M transposes_S32x32_S32x32_1_0)) transposes_S8x64x64x64x32_S8x32x64x64x64_0_4_1_2_3)
      (along1 (D 32) X) := by
  intro b c p q r
  pointwise
  simp only [hx _ _ _ _ _, hM _ _]
  exact coe_sum_mul _ _

/-- The forward step along the third axis. -/
theorem fwd2 {M : FVec Ideal S64x64 .f32} (hx : Big x X) (hM : Cos64 M) :
    Big (transpose S8x32x64x64x64 [0, 1, 4, 2, 3] (Host.dotGeneral dot_S8x32x64x64x64_S64x64_S8x32x64x64x64_4_0_0123_1_n_n none (transpose S8x32x64x64x64 [0, 1, 3, 4, 2] x transposes_S8x32x64x64x64_S8x32x64x64x64_0_1_3_4_2) (transpose S64x64 [1, 0] M transposes_S64x64_S64x64_1_0)) transposes_S8x32x64x64x64_S8x32x64x64x64_0_1_4_2_3)
      (along2 (D 64) X) := by
  intro b c p q r
  pointwise
  simp only [hx _ _ _ _ _, hM _ _]
  exact coe_sum_mul _ _

/-- The forward step along the fourth axis. -/
theorem fwd3 {M : FVec Ideal S64x64 .f32} (hx : Big x X) (hM : Cos64 M) :
    Big (transpose S8x32x64x64x64 [0, 1, 2, 4, 3] (Host.dotGeneral dot_S8x32x64x64x64_S64x64_S8x32x64x64x64_4_0_0123_1_n_n none (transpose S8x32x64x64x64 [0, 1, 2, 4, 3] x transposes_S8x32x64x64x64_S8x32x64x64x64_0_1_2_4_3) (transpose S64x64 [1, 0] M transposes_S64x64_S64x64_1_0)) transposes_S8x32x64x64x64_S8x32x64x64x64_0_1_2_4_3)
      (along3 (D 64) X) := by
  intro b c p q r
  pointwise
  simp only [hx _ _ _ _ _, hM _ _]
  exact coe_sum_mul _ _

/-- The forward step along the fifth axis. -/
theorem fwd4 {M : FVec Ideal S64x64 .f32} (hx : Big x X) (hM : Cos64 M) :
    Big (Host.dotGeneral dot_S8x32x64x64x64_S64x64_S8x32x64x64x64_4_0_0123_1_n_n none x (transpose S64x64 [1, 0] M transposes_S64x64_S64x64_1_0))
      (along4 (D 64) X) := by
  intro b c p q r
  pointwise
  simp only [hx _ _ _ _ _, hM _ _]
  exact coe_sum_mul _ _

/-- The first 28 frequencies of each of the last three axes, padded with zeros to 32. -/
theorem cropped (hx : Big x X) :
    Small (pad S8x32x32x32x32 ![0, 0, 0, 0, 0] ![0, 0, 4, 4, 4] ![0, 0, 0, 0, 0] (extractStridedSlice S8x32x28x28x28 ![0, 0, 0, 0, 0] x slices_S8x32x64x64x64_S8x32x28x28x28_0_0_0_0_0) (sitofp .f32 (constantI S_ 32 0#32)) pads_S8x32x28x28x28_S8x32x32x32x32_000_000_040_040_040 h_S_)
      (crop X) := by
  intro b c p q r
  pointwise
  unfold crop
  split
  · exact hx _ _ _ _ _
  · exact (sitofp_word 0 (by norm_num)).trans (by simp)

/-! ### Inverse -/

section Inverse
variable {x : FVec Ideal S8x32x32x32x32 .f32} {X : Arr 8 32 32 32 32}

/-- The inverse step along the first axis. -/
theorem inv0 {M : FVec Ideal S8x8 .f32} (hx : Small x X) (hM : Cos8 M) :
    Small (transpose S8x32x32x32x32 [4, 0, 1, 2, 3] (Host.dotGeneral dot_S32x32x32x32x8_S8x8_S32x32x32x32x8_4_0_0123_1_n_n none (transpose S32x32x32x32x8 [1, 2, 3, 4, 0] x transposes_S8x32x32x32x32_S32x32x32x32x8_1_2_3_4_0) M) transposes_S32x32x32x32x8_S8x32x32x32x32_4_0_1_2_3)
      (along0 (D 8).transpose X) := by
  intro b c p q r
  pointwise
  simp only [hx _ _ _ _ _, hM _ _]
  exact coe_sum_mul _ _

/-- The inverse step along the second axis. -/
theorem inv1 {M : FVec Ideal S32x32 .f32} (hx : Small x X) (hM : Cos32 M) :
    Small (transpose S8x32x32x32x32 [0, 4, 1, 2, 3] (Host.dotGeneral dot_S8x32x32x32x32_S32x32_S8x32x32x32x32_4_0_0123_1_n_n none (transpose S8x32x32x32x32 [0, 2, 3, 4, 1] x transposes_S8x32x32x32x32_S8x32x32x32x32_0_2_3_4_1) M) transposes_S8x32x32x32x32_S8x32x32x32x32_0_4_1_2_3)
      (along1 (D 32).transpose X) := by
  intro b c p q r
  pointwise
  simp only [hx _ _ _ _ _, hM _ _]
  exact coe_sum_mul _ _

/-- The inverse step along the third axis. -/
theorem inv2 {M : FVec Ideal S32x32 .f32} (hx : Small x X) (hM : Cos32 M) :
    Small (transpose S8x32x32x32x32 [0, 1, 4, 2, 3] (Host.dotGeneral dot_S8x32x32x32x32_S32x32_S8x32x32x32x32_4_0_0123_1_n_n none (transpose S8x32x32x32x32 [0, 1, 3, 4, 2] x transposes_S8x32x32x32x32_S8x32x32x32x32_0_1_3_4_2) M) transposes_S8x32x32x32x32_S8x32x32x32x32_0_1_4_2_3)
      (along2 (D 32).transpose X) := by
  intro b c p q r
  pointwise
  simp only [hx _ _ _ _ _, hM _ _]
  exact coe_sum_mul _ _

/-- The inverse step along the fourth axis. -/
theorem inv3 {M : FVec Ideal S32x32 .f32} (hx : Small x X) (hM : Cos32 M) :
    Small (transpose S8x32x32x32x32 [0, 1, 2, 4, 3] (Host.dotGeneral dot_S8x32x32x32x32_S32x32_S8x32x32x32x32_4_0_0123_1_n_n none (transpose S8x32x32x32x32 [0, 1, 2, 4, 3] x transposes_S8x32x32x32x32_S8x32x32x32x32_0_1_2_4_3) M) transposes_S8x32x32x32x32_S8x32x32x32x32_0_1_2_4_3)
      (along3 (D 32).transpose X) := by
  intro b c p q r
  pointwise
  simp only [hx _ _ _ _ _, hM _ _]
  exact coe_sum_mul _ _

/-- The inverse step along the fifth axis. -/
theorem inv4 {M : FVec Ideal S32x32 .f32} (hx : Small x X) (hM : Cos32 M) :
    Small (Host.dotGeneral dot_S8x32x32x32x32_S32x32_S8x32x32x32x32_4_0_0123_1_n_n none x M)
      (along4 (D 32).transpose X) := by
  intro b c p q r
  pointwise
  simp only [hx _ _ _ _ _, hM _ _]
  exact coe_sum_mul _ _

end Inverse

end Cert.ReferenceIdeal.Hand

end
-- ==== Proof.Reference.lean ====
module

public import proofs.«01_k».proof.Proof.Steps
public import proofs.«01_k».proof.Proof.Gen.ReferenceIdeal.Run
public import Idealize.ShloMosaic.Lib.Quiescent

/-! What the reference computes from a launch whose argument holds real numbers. -/

@[expose] public section

set_option maxRecDepth 16384

namespace Cert.ReferenceIdeal.Hand

open Idealize.ShloMosaic Idealize.ShloMosaic.TcCoe Idealize.ShloMosaic.StableHlo
open Cert.ReferenceIdeal Cert.ReferenceIdeal.Gen Cert.ReferenceIdeal.Value Cert.Math

variable {V : Valuation τ sig (Elt Ideal)} {X : Arr 8 32 64 64 64}

/-- The forward transforms along the first four axes. -/
theorem forward_apply (hx : Big (V (Proc.devRef .tc main_arg0)) X) :
    Big (transpose S8x32x64x64x64 [0, 1, 2, 4, 3] (res_main_v114 V)
        transposes_S8x32x64x64x64_S8x32x64x64x64_0_1_2_4_3)
      (along3 (D 64) (along2 (D 64) (along1 (D 32) (along0 (D 8) X)))) := by
  unfold res_main_v114
  exact fwd3 (fwd2 (fwd1 (fwd0 hx (cos8 _ rfl)) (cos32 _ rfl)) (cos64 _ rfl)) (cos64 _ rfl)

/-- Then the fifth axis, the crop, and the inverse transforms along the first three axes. -/
theorem middle_apply (hx : Big (V (Proc.devRef .tc main_arg0)) X) :
    Small (transpose S8x32x32x32x32 [0, 1, 4, 2, 3] (res_main_v227 V)
        transposes_S8x32x32x32x32_S8x32x32x32x32_0_1_4_2_3)
      (along2 (D 32).transpose (along1 (D 32).transpose (along0 (D 8).transpose
        (crop (along4 (D 64) (along3 (D 64) (along2 (D 64) (along1 (D 32) (along0 (D 8) X))))))))) := by
  unfold res_main_v227
  exact inv2 (inv1 (inv0 (cropped (fwd4 (forward_apply hx) (cos64 _ rfl))) (cos8 _ rfl))
    (cos32 _ rfl)) (cos32 _ rfl)

/-- The reference runs; its result holds the whole chain of transforms of the argument, and the
argument is unchanged. -/
theorem run_chain (m : (ℓ : Loc nD τ sig) → Buf (Elt Ideal) ℓ) (ρ : Dev nD → PrngReg)
    (X : Dev nD → Arr 8 32 64 64 64) (hX : ∀ c : Dev nD, Big (m (c.tc.loc main_arg0)) (X c)) :
    θ_run defs (onTc (τ := τ) (main (F := Ideal))) ⟨m, fun _ => 0, ρ⟩ fun r => ∀ c : Dev nD,
      Small (r.2.mem (c.tc.loc main_v282)) (chain (X c))
      ∧ r.2.mem (c.tc.loc main_arg0) = m (c.tc.loc main_arg0) := by
  refine (θ_run defs _ _).mono (fun r h c => ⟨?_, (h c).2⟩) (Value.run m ρ)
  rw [(h c).1]
  exact inv4 (inv3 (middle_apply (V := launchContents m c) (hX c)) (cos32 _ rfl)) (cos32 _ rfl)

/-- The reference runs, its argument ends unchanged, and every semaphore counter ends at zero: it
declares none. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem (c.tc.loc main_arg0) = m (c.tc.loc main_arg0))
      ∧ r.2.sem = fun _ => 0 :=
  (θ_run defs _ _).mono (fun r h => ⟨fun c => (h c).2, sem_eq_zero_of_no_sems (by decide) r.2⟩)
    (Value.run m ρ)

end Cert.ReferenceIdeal.Hand

end
-- ==== Proof.Finite.lean ====
module

public import proofs.«01_k».proof.Proof.Along
public import proofs.«01_k».proof.Proof.Gen.Pre_finite
public import Idealize.ShloMosaic.Lib.Pointwise

/-! The precondition: an array of finite elements is an array of real numbers. -/

@[expose] public section

set_option maxRecDepth 16384

namespace Cert.Pre_finite.Hand

open Idealize.ShloMosaic Cert.Pre_finite Cert.Pre_finite.Gen Cert.Math

/-- The word of infinity is infinity. -/
theorem lit_inf : Ideal.ofBits .f32 0x7F800000#32 = (⊤ : EReal) := by
  simp [Ideal.ofBits, Ideal.ieee]

/-- An extended real whose absolute value is below infinity is a real number. -/
theorem real_of_abs_lt (x : EReal) (h : max x (-x) < ⊤) : ((x.toReal : ℝ) : EReal) = x := by
  refine EReal.coe_toReal (fun hx => ?_) (fun hx => ?_) <;> subst hx <;> simp at h

/-- Under the precondition every element is a real number. -/
theorem real_of_finite (x : FVec Ideal S8x32x64x64x64 .f32) (h : fn (F := Ideal) x = fun _ => 1#1)
    (b : Fin 8) (c : Fin 32) (p q r : Fin 64) :
    x (ix5 b c p q r) = (((x (ix5 b c p q r) : EReal).toReal : ℝ) : EReal) := by
  have h0 := congrFun h (ix5 b c p q r)
  revert h0
  unfold fn
  pointwise
  rw [lit_inf]
  intro h0
  refine (real_of_abs_lt (x (ix5 b c p q r)) ?_).symm
  by_contra hn
  have hd : decide ((FloatOps.absf (F := Ideal) (φ := .f32) (x (ix5 b c p q r)) : EReal) < ⊤) = false :=
    decide_eq_false hn
  rw [hd] at h0
  exact absurd h0 (by decide)

end Cert.Pre_finite.Hand

end
-- ==== Proof.lean ====
module

public import proofs.«01_k».proof.Defs
public import proofs.«01_k».proof.Proof.Gen.Kernel
public import proofs.«01_k».proof.Proof.Gen.Kernel.Frame
public import proofs.«01_k».proof.Proof.Output
public import proofs.«01_k».proof.Proof.Reference
public import proofs.«01_k».proof.Proof.Finite

/-! The certificate: the frames, and the equation of the kernel with the reference. -/

@[expose] public section

set_option maxRecDepth 16384

namespace Cert.KernelIdeal.Hand

open Idealize.ShloMosaic Idealize.ShloMosaic.TcCoe Cert.KernelIdeal Cert.KernelIdeal.Gen Cert.Math

/-- The kernel runs; its result holds the whole chain of transforms of the argument, and the
argument is unchanged. -/
theorem run_chain (m : (ℓ : Loc nD τ sig) → Buf (Elt Ideal) ℓ) (ρ : Dev nD → PrngReg)
    (X : Dev nD → Arr 8 32 64 64 64)
    (hX : ∀ (c : Dev nD) b ch p q r, m (c.tc.loc main_arg0) (ix5 b ch p q r) = ((X c b ch p q r : ℝ) : EReal)) :
    θ_run defs (onTc (τ := τ) (main (F := Ideal))) ⟨m, fun _ => 0, ρ⟩ fun r => ∀ c : Dev nD,
      (∀ b ch i j k, r.2.mem (c.tc.loc main_v61) (ix5 b ch i j k)
        = ((chain (X c) b ch i j k : ℝ) : EReal))
      ∧ r.2.mem (c.tc.loc main_arg0) = m (c.tc.loc main_arg0) := by
  refine (θ_run defs _ _).mono (fun r h c => ⟨fun b ch i j k => ?_, ?_⟩) (run_main m ρ)
  · refine (congrFun ((h c).2 main_v61
      (Pipeline.mem_restRefs_of main_v61 (by decide) (by decide))) (ix5 b ch i j k)).trans ?_
    rw [chain_eq]
    exact tail_apply m c _ (region_out m c (X c) (hX c)) b ch i j k
  · exact ((h c).2 main_arg0 (Pipeline.mem_restRefs_of main_arg0 (by decide) (by decide))).trans
      (W_main_arg0 m (dats m) c)

end Cert.KernelIdeal.Hand

namespace Cert.Proof

open Idealize.ShloMosaic Idealize.ShloMosaic.TcCoe Cert.Math

/-- From finite arguments the kernel and the reference end with equal results: each holds the chain
of transforms of the argument. -/
theorem equal : @Cert.algebraic_KernelIdeal_ReferenceIdeal_pre_finite
    Cert.KernelIdeal.Gen.facts Cert.ReferenceIdeal.Gen.facts Cert.Pre_finite.Gen.facts := by
  intro m g m' g' hpre hargs
  let X : Dev Cert.KernelIdeal.nD → Arr 8 32 64 64 64 := fun c b ch p q r =>
    (m (c.tc.loc Cert.KernelIdeal.main_arg0) (ix5 b ch p q r) : EReal).toReal
  have hX : ∀ (c : Dev Cert.KernelIdeal.nD) b ch p q r, m (c.tc.loc Cert.KernelIdeal.main_arg0) (ix5 b ch p q r)
      = ((X c b ch p q r : ℝ) : EReal) := fun c b ch p q r =>
    Cert.Pre_finite.Hand.real_of_finite _ (hpre c) b ch p q r
  refine ⟨fun c x => ((chain (X c) (x 0) (x 1) (x 2) (x 3) (x 4) : ℝ) : EReal), ?_, ?_⟩
  · refine (θ_run _ _ _).mono (fun r h c => ⟨funext fun x => ?_, (h c).2⟩)
      (Cert.KernelIdeal.Hand.run_chain m g X hX)
    exact (congrArg _ (eq_ix5 x)).trans ((h c).1 (x 0) (x 1) (x 2) (x 3) (x 4))
  · refine (θ_run _ _ _).mono (fun r h c => ⟨funext fun x => ?_, (h c).2⟩)
      (Cert.ReferenceIdeal.Hand.run_chain m' g' X fun c b ch p q r => ?_)
    · exact (congrArg _ (eq_ix5 x)).trans ((h c).1 (x 0) (x 1) (x 2) (x 3) (x 4))
    · exact (congrFun (hargs c) (ix5 b ch p q r)).trans (hX c b ch p q r)

/-- Every claim of the certificate. -/
theorem claim : Cert.Claim :=
  ⟨Cert.Kernel.Gen.facts, Cert.KernelIdeal.Gen.facts, Cert.ReferenceIdeal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Hand.frame m ρ,
    fun m ρ _ => Cert.ReferenceIdeal.Hand.frame m ρ,
    trivial, equal⟩

end Cert.Proof

end
